-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S4x64x512 : Shape := ⟨3, ![4, 64, 512]⟩
abbrev S4 : Shape := ⟨1, ![4]⟩
abbrev S_ : Shape := ⟨0, ![]⟩
abbrev S1x64x512 : Shape := ⟨3, ![1, 64, 512]⟩
abbrev S64x512 : Shape := ⟨2, ![64, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x512x1024, .bf16⟩
  | .hbm, ⟨1, _⟩ => ⟨S512x512, .bf16⟩
  | .local _ .vmem, ⟨0, _⟩ => ⟨S1x512x1024, .bf16⟩
  | .local _ .vmem, ⟨1, _⟩ => ⟨S512x512, .bf16⟩
  | .local _ .vmem, ⟨2, _⟩ => ⟨S4x64x512, .bf16⟩
  | .local _ .vmem, ⟨3, _⟩ => ⟨S512x512, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v14 : BitVec 32 := Scalar.muli v9 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v18 : BitVec 32 := Scalar.muli v10 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) (c0_i32_14 : BitVec 32) : Fin 3 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v25 : BitVec 32 := Scalar.addi v24 c0_i32_14
  let v28 : Index := Scalar.indexCast v25
  let c1_i32_15 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_15 v5
  let c512_i32 : BitVec 32 := 512#32
  let v27 : BitVec 32 := Scalar.muli v26 c512_i32
  let v29 : Index := Scalar.indexCast v27
  ![0, v28.toNat, v29.toNat]
def k0_off2 (d0 : Dev nD) (c0_i32_14 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v25 : BitVec 32 := Scalar.addi v24 c0_i32_14
  let c0_i32_26 : BitVec 32 := 0#32
  ![v25.toNat, 0]
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v37 : BitVec 32 := Scalar.muli v9 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v39 : BitVec 32 := Scalar.muli v8 c1_i32_25
  let v40 : BitVec 32 := Scalar.addi v38 v39
  v40.toNat
def k0_dev4 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v58 : BitVec 32 := Scalar.muli v2 c8_i32_37
  let v59 : BitVec 32 := Scalar.addi c0_i32_38 v58
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_39 : BitVec 32 := 4#32
  let v60 : BitVec 32 := Scalar.muli v9 c4_i32_39
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v62 : BitVec 32 := Scalar.muli v8 c1_i32_40
  let v63 : BitVec 32 := Scalar.addi v61 v62
  v63.toNat
def k0_dev5 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v81 : BitVec 32 := Scalar.muli v2 c8_i32_52
  let v82 : BitVec 32 := Scalar.addi c0_i32_53 v81
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_54 : BitVec 32 := 4#32
  let v83 : BitVec 32 := Scalar.muli v9 c4_i32_54
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v85 : BitVec 32 := Scalar.muli v8 c1_i32_55
  let v86 : BitVec 32 := Scalar.addi v84 v85
  v86.toNat
def k0_dev6 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v104 : BitVec 32 := Scalar.muli v2 c8_i32_66
  let v105 : BitVec 32 := Scalar.addi c0_i32_67 v104
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_68 : BitVec 32 := 4#32
  let v106 : BitVec 32 := Scalar.muli v9 c4_i32_68
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v108 : BitVec 32 := Scalar.muli v8 c1_i32_69
  let v109 : BitVec 32 := Scalar.addi v107 v108
  v109.toNat
def k0_off3 (d0 : Dev nD) (c0_i32_73 : BitVec 32) : Fin 3 → Nat :=
  let c0_75 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v117 : BitVec 32 := Scalar.addi v24 c0_i32_73
  let v119 : Index := Scalar.indexCast v117
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_74 : BitVec 32 := 512#32
  let v118 : BitVec 32 := Scalar.muli v5 c512_i32_74
  let v120 : Index := Scalar.indexCast v118
  ![0, v119.toNat, v120.toNat]
def k0_dev7 (d0 : Dev nD) : Nat :=
  let c0_i32_89 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_88 : BitVec 32 := 8#32
  let v134 : BitVec 32 := Scalar.muli v10 c8_i32_88
  let v135 : BitVec 32 := Scalar.addi c0_i32_89 v134
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v136 : BitVec 32 := Scalar.muli v5 c4_i32_90
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v138 : BitVec 32 := Scalar.muli v8 c1_i32_91
  let v139 : BitVec 32 := Scalar.addi v137 v138
  v139.toNat
def k0_off4 (d0 : Dev nD) (c0_i32_73 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let v117 : BitVec 32 := Scalar.addi v24 c0_i32_73
  let v146 : Index := Scalar.indexCast v117
  let c0_94 : Index := 0#32
  ![v146.toNat, 0]
def k0_dev8 (d0 : Dev nD) : Nat :=
  let c0_i32_112 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_111 : BitVec 32 := 8#32
  let v168 : BitVec 32 := Scalar.muli v10 c8_i32_111
  let v169 : BitVec 32 := Scalar.addi c0_i32_112 v168
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v170 : BitVec 32 := Scalar.muli v5 c4_i32_113
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v172 : BitVec 32 := Scalar.muli v8 c1_i32_114
  let v173 : BitVec 32 := Scalar.addi v171 v172
  v173.toNat
def k0_dev9 (d0 : Dev nD) : Nat :=
  let c0_i32_135 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_134 : BitVec 32 := 8#32
  let v202 : BitVec 32 := Scalar.muli v10 c8_i32_134
  let v203 : BitVec 32 := Scalar.addi c0_i32_135 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v204 : BitVec 32 := Scalar.muli v5 c4_i32_136
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v206 : BitVec 32 := Scalar.muli v8 c1_i32_137
  let v207 : BitVec 32 := Scalar.addi v205 v206
  v207.toNat
def k0_dev10 (d0 : Dev nD) : Nat :=
  let c0_i32_158 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_157 : BitVec 32 := 8#32
  let v236 : BitVec 32 := Scalar.muli v10 c8_i32_157
  let v237 : BitVec 32 := Scalar.addi c0_i32_158 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v238 : BitVec 32 := Scalar.muli v5 c4_i32_159
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v240 : BitVec 32 := Scalar.muli v8 c1_i32_160
  let v241 : BitVec 32 := Scalar.addi v239 v240
  v241.toNat
def k0_off5 (d0 : Dev nD) (c0_i32_167 : BitVec 32) : Fin 3 → Nat :=
  let c0_169 : Index := 0#32
  let c1_i32_165 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v253 : BitVec 32 := Scalar.subi c1_i32_165 v2
  let c256_i32_166 : BitVec 32 := 256#32
  let v254 : BitVec 32 := Scalar.muli v253 c256_i32_166
  let v255 : BitVec 32 := Scalar.addi v254 c0_i32_167
  let v257 : Index := Scalar.indexCast v255
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_168 : BitVec 32 := 512#32
  let v256 : BitVec 32 := Scalar.muli v5 c512_i32_168
  let v258 : Index := Scalar.indexCast v256
  ![0, v257.toNat, v258.toNat]
def k0_off6 (d0 : Dev nD) (c0_i32_167 : BitVec 32) : Fin 2 → Nat :=
  let c1_i32_165 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v253 : BitVec 32 := Scalar.subi c1_i32_165 v2
  let c256_i32_166 : BitVec 32 := 256#32
  let v254 : BitVec 32 := Scalar.muli v253 c256_i32_166
  let v255 : BitVec 32 := Scalar.addi v254 c0_i32_167
  let c0_i32_176 : BitVec 32 := 0#32
  ![v255.toNat, 0]
def k0_off7 (d0 : Dev nD) (c0_i32_167 : BitVec 32) : Fin 2 → Nat :=
  let c1_i32_165 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v253 : BitVec 32 := Scalar.subi c1_i32_165 v2
  let c256_i32_166 : BitVec 32 := 256#32
  let v254 : BitVec 32 := Scalar.muli v253 c256_i32_166
  let v255 : BitVec 32 := Scalar.addi v254 c0_i32_167
  let v271 : Index := Scalar.indexCast v255
  let c0_178 : Index := 0#32
  ![v271.toNat, 0]
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x512x1024, .bf16⟩
  | .hbm, ⟨1, _⟩ => ⟨S2x512x1024, .f32⟩
  | .hbm, ⟨2, _⟩ => ⟨S_, .f32⟩
  | .hbm, ⟨3, _⟩ => ⟨S512x1024, .f32⟩
  | .hbm, ⟨4, _⟩ => ⟨S512x1024, .bf16⟩
  | _, _ => ⟨S2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
The mesh of v03's kernel, its buffers and its semaphores.

A device's number is `8 x + 4 y + z`. Its `y` partner differs in `y` alone and its `x` partner in `x` alone. Each device
first exchanges with its `y` partner the rows of its own half (`x` says which 256 rows), in four chunks of 64 rows, and
hands each chunk on to its `x` partner, from which it gets the chunks of the other half.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Ring
public import Idealize.ShloMosaic.Lib.Tactic

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The partners -/

set_option backward.proofsInPublic true in
/-- The device that differs from `c` in its `y` coordinate alone. -/
def yp (c : Dev nD) : Dev nD := ⟨(8 * (c.val / 8) + (c.val % 4) + 4) - 4 * ((c.val / 4) % 2), by revert c; decide⟩
set_option backward.proofsInPublic true in
/-- The device that differs from `c` in its `x` coordinate alone. -/
def xp (c : Dev nD) : Dev nD := ⟨(4 * ((c.val / 4) % 2) + (c.val % 4) + 8) - 8 * (c.val / 8), by revert c; decide⟩

/-- Taking the `y` partner twice comes back. -/
theorem yp_yp (c : Dev nD) : yp (yp c) = c := by revert c; decide
/-- Taking the `x` partner twice comes back. -/
theorem xp_xp (c : Dev nD) : xp (xp c) = c := by revert c; decide

/-- Each partner map is its own inverse, so it permutes the devices. -/
def ypE : Dev nD ≃ Dev nD := ⟨yp, yp, yp_yp, yp_yp⟩
def xpE : Dev nD ≃ Dev nD := ⟨xp, xp, xp_xp, xp_xp⟩

/-- The half of the rows a device handles itself (its `x`), and the half of the columns it ends up with (its `y`). -/
abbrev hx (c : Dev nD) : ℕ := c.val / 8
abbrev hy (c : Dev nD) : ℕ := (c.val / 4) % 2

theorem hx_lt (c : Dev nD) : hx c < 2 := by revert c; decide
theorem hy_lt (c : Dev nD) : hy c < 2 := Nat.mod_lt _ (by decide)
/-- `y` partners have the same `x`, -/
theorem hx_yp (c : Dev nD) : hx (yp c) = hx c := by revert c; decide
/-- and different `y`s. -/
theorem hy_yp (c : Dev nD) : hy (yp c) = 1 - hy c := by revert c; decide
/-- `x` partners have different `x`s, -/
theorem hx_xp (c : Dev nD) : hx (xp c) = 1 - hx c := by revert c; decide
/-- and the same `y`. -/
theorem hy_xp (c : Dev nD) : hy (xp c) = hy c := by revert c; decide

/-- The first row of chunk `k` of the device's own half, and of the other half. -/
def bD (c : Dev nD) (k : Fin 4) : ℕ := 256 * hx c + 64 * k.val
/-- The first row of chunk `k` of the half that is relayed to device `c`. -/
def bR (c : Dev nD) (k : Fin 4) : ℕ := (64 * k.val + 256) - 256 * hx c

/-- `y` partners exchange the same rows. -/
theorem bD_yp (c : Dev nD) (k : Fin 4) : bD (yp c) k = bD c k := by unfold bD; rw [hx_yp]
/-- What a device's `x` partner handles itself is what is relayed to it, -/
theorem bD_xp (c : Dev nD) (k : Fin 4) : bD (xp c) k = bR c k := by
  unfold bD bR; rw [hx_xp]; have := hx_lt c; omega
/-- and the other way round. -/
theorem bR_xp (c : Dev nD) (k : Fin 4) : bR (xp c) k = bD c k := by
  unfold bD bR; rw [hx_xp]; have := hx_lt c; omega

/-! ## The buffers -/

/-- The staged input, the staged output, the send buffer and the receive buffer. -/
abbrev xM : Memref sig .tc .vmem S1x512x1024 .bf16 := Memref.whole cc0_stg0_0
abbrev oM : Memref sig .tc .vmem S512x512 .bf16 := Memref.whole cc0_stg1_0
abbrev sM : Memref sig .tc .vmem S4x64x512 .bf16 := Memref.whole cc0_scratch0
abbrev mM : Memref sig .tc .vmem S512x512 .bf16 := Memref.whole cc0_scratch1

/-- A chunk of the receive buffer, 64 rows from an offset. -/
abbrev mV (off : Fin 2 → ℕ) (inb : ∀ a, off a + S64x512.size a ≤ S512x512.size a) : Memref sig .tc .vmem S64x512 .bf16 :=
  mM.slice (Rect.unit (s := S512x512) off S64x512.size inb) (fun _ => rfl)
/-- A slot of the send buffer. -/
abbrev sR (off : Fin 3 → ℕ) (inb : ∀ a, off a + S1x64x512.size a ≤ S4x64x512.size a) : Rect S4x64x512 :=
  Rect.unit (s := S4x64x512) off S1x64x512.size inb
abbrev sV (off : Fin 3 → ℕ) (inb : ∀ a, off a + S1x64x512.size a ≤ S4x64x512.size a) : Memref sig .tc .vmem S64x512 .bf16 :=
  (sM.slice (sR off inb) (fun _ => rfl)).squeeze S64x512 squeezes_S1x64x512_S64x512

/-- The indices of 64 rows of a 512 by 512 buffer, from row `b`. -/
def rows (b : ℕ) : Finset S512x512.Idx := Finset.univ.filter fun i => b ≤ (i 0).val ∧ (i 0).val < b + 64
/-- The indices of slot `k` of the send buffer. -/
def slot (k : Fin 4) : Finset S4x64x512.Idx := Finset.univ.filter fun i => (i 0).val = k.val

theorem mem_rows {b : ℕ} {i : S512x512.Idx} : i ∈ rows b ↔ b ≤ (i 0).val ∧ (i 0).val < b + 64 := by simp [rows]
theorem mem_slot {k : Fin 4} {i : S4x64x512.Idx} : i ∈ slot k ↔ (i 0).val = k.val := by simp [slot]

/-- The 64 by 512 rectangle at row `b` has the rows' indices. -/
theorem rect_rows {off : Fin 2 → ℕ} {inb : ∀ a, off a + S64x512.size a ≤ S512x512.size a} {b : ℕ} (h : off = ![b, 0]) :
    (Rect.unit (s := S512x512) off S64x512.size inb).set = rows b := by
  subst h
  ext i
  rw [Rect.mem_set_unit, mem_rows]
  constructor
  · intro H; exact H 0
  · intro H a
    have h1 : (i 1).val < 512 := (i 1).isLt
    fin_cases a
    · exact H
    · exact ⟨Nat.zero_le _, by simpa using h1⟩

/-- The elements of a view of 64 rows. -/
theorem mV_set {off : Fin 2 → ℕ} {inb : ∀ a, off a + S64x512.size a ≤ S512x512.size a} {b : ℕ} (h : off = ![b, 0]) :
    (mV off inb).view.set = rows b := by
  show ((View.whole cc0_scratch1).slice _).set = _
  rw [View.set_slice_whole]; exact rect_rows h

/-- The 1 by 64 by 512 rectangle at slot `k` has the slot's indices. -/
theorem rect_slot {off : Fin 3 → ℕ} {inb : ∀ a, off a + S1x64x512.size a ≤ S4x64x512.size a} {k : Fin 4} (h : off = ![k.val, 0, 0]) :
    (sR off inb).set = slot k := by
  subst h
  ext i
  rw [Rect.mem_set_unit, mem_slot]
  constructor
  · intro H
    have := H 0
    have h2 : k.val ≤ (i 0).val ∧ (i 0).val < k.val + 1 := this
    omega
  · intro H a
    have h1 : (i 1).val < 64 := (i 1).isLt
    have h2 : (i 2).val < 512 := (i 2).isLt
    fin_cases a
    · exact ⟨Nat.le_of_eq H.symm, by show (i 0).val < k.val + 1; omega⟩
    · exact ⟨Nat.zero_le _, by simpa using h1⟩
    · exact ⟨Nat.zero_le _, by simpa using h2⟩

/-- The elements of a view of a slot. -/
theorem sV_set {off : Fin 3 → ℕ} {inb : ∀ a, off a + S1x64x512.size a ≤ S4x64x512.size a} {k : Fin 4} (h : off = ![k.val, 0, 0]) :
    (sV off inb).view.set = slot k := by
  show (((View.whole cc0_scratch0).slice (sR off inb)).reshape S64x512 _).set = _
  rw [View.set_reshape, View.set_slice_whole]; exact rect_slot h

/-! ## The semaphores -/

/-- The program's one barrier semaphore, outside the kernel's scope. -/
abbrev barS : Sem sig := (SemArray.scalar (sig.barrier 0 rfl) : Sems sig S_).sem
/-- The four arrays of completion semaphores: `y` sent, `y` received, `x` sent, `x` received. -/
def qArr : Fin 4 → DmaSems sig S4
  | 0 => cc0_scratch2 | 1 => cc0_scratch3 | 2 => cc0_scratch4 | 3 => cc0_scratch5
/-- Semaphore `k` of array `j`. -/
def qs (j k : Fin 4) : DmaSem sig := (qArr j).ix (fun a => match a with | ⟨0, _⟩ => k)

/-- The kernel's own (scoped) semaphores. -/
abbrev osem (jk : Fin 4 × Fin 4) : SemLoc sig := .dma (qs jk.1 jk.2)
/-- All the kernel's semaphores: the barrier and its own. -/
abbrev csem : Unit ⊕ (Fin 4 × Fin 4) → SemLoc sig
  | .inl _ => .reg barS
  | .inr jk => osem jk

/-- Device `c`'s barrier cell, and its cell for semaphore `k` of array `j`. -/
abbrev barCell (c : Dev nD) : GSem nD τ sig := ((c : Thread nD τ), .reg barS)
abbrev qCell (c : Dev nD) (j k : Fin 4) : GSem nD τ sig := ((c : Thread nD τ), .dma (qs j k))
abbrev kcell (ck : Dev nD × (Unit ⊕ (Fin 4 × Fin 4))) : GSem nD τ sig := ((ck.1 : Thread nD τ), csem ck.2)

/-- The completion semaphores of the four arrays are all different. -/
theorem qs_inj : ∀ j k j' k' : Fin 4, qs j k = qs j' k' → j = j' ∧ k = k' := by decide +kernel

/-- Which semaphore of which array a completion semaphore is. -/
def which (q : DmaSem sig) : Option (Fin 4 × Fin 4) :=
  ([0, 1, 2, 3].flatMap fun j : Fin 4 => [0, 1, 2, 3].map fun k : Fin 4 => (j, k)).find? fun jk => qs jk.1 jk.2 = q
/-- Each is recognised as what it is. -/
theorem which_qs : ∀ j k : Fin 4, which (qs j k) = some (j, k) := by decide +kernel

/-- What one chunk's transfer adds to the semaphore it completes on. -/
abbrev N : ℕ := (mV ![0, 0] (by decide)).view.dmaCredit
/-- A chunk's transfer credits something. -/
theorem N_pos : 0 < N := View.dmaCredit_pos _ (by decide)

end Cert.RelayProof

end
-- ==== Proof.Contents.lean ====
/-
What the buffers hold: the staged input, what each chunk's landing leaves in the receive buffer, and the result.
-/
module

public import proofs.«01_k».proof.Proof.Mesh

@[expose] public section

noncomputable section

namespace Cert.RelayProof

open Cert.KernelIdeal Cert.KernelIdeal.Gen
open Idealize.ShloMosaic
open Idealize.ShloMosaic.TcCoe
open Idealize.ShloMosaic.ValueIdx
open Idealize.SL Idealize.SL.RA Idealize.SL.BI
open Idealize.SL.Sem

variable {F : FTy → Type} [FloatOps F]
variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s block of the input, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- The index of the input block at row `i 0` and at column `i 1` of the half of the columns that device `c` ends up with. -/
def xIx (c : Dev nD) (i : S512x512.Idx) : S1x512x1024.Idx :=
  ix3 (n0 := 1) (n1 := 512) (n2 := 1024) 0 (i 0) ⟨512 * hy c + (i 1).val, by
    have h1 : (i 1).val < 512 := (i 1).isLt
    have := hy_lt c
    omega⟩

/-- Device `d`'s input there. -/
def xAt (c d : Dev nD) (i : S512x512.Idx) : Elt F .bf16 := xstg m ρ d (xIx c i)

/-- What device `c`'s receive buffer holds once all has landed: its `y` partner's input in its own half of the rows, the
    input of its `x` partner's `y` partner in the other half. -/
def landed (c : Dev nD) : (cc0_scratch1 : Ref sig .tc).ty.Contents (Elt F) :=
  fun i : S512x512.Idx => if (i 0).val / 256 = hx c then xAt m ρ c (yp c) i else xAt m ρ c (yp (xp c)) i

/-- The result on device `c`: its own input plus what it received. -/
def outAt (c : Dev nD) : (cc0_stg1_0 : Ref sig .tc).ty.Contents (Elt F) :=
  fun i : S512x512.Idx => FloatOps.addf (xAt m ρ c c i) (landed m ρ c i)

/-- In the half a device receives itself, what lands is its `y` partner's input. -/
theorem landed_own (c : Dev nD) (k : Fin 4) {i : S512x512.Idx} (h : i ∈ rows (bD c k)) : landed m ρ c i = xAt m ρ c (yp c) i := by
  rw [mem_rows] at h
  unfold landed bD at *
  have hk := k.isLt
  rw [if_pos (by omega)]

/-- In the other half it is the input of its `x` partner's `y` partner. -/
theorem landed_other (c : Dev nD) (k : Fin 4) {i : S512x512.Idx} (h : i ∈ rows (bR c k)) : landed m ρ c i = xAt m ρ c (yp (xp c)) i := by
  rw [mem_rows] at h
  unfold landed bR at *
  have hk := k.isLt
  have hc := hx_lt c
  rw [if_neg (by omega)]

/-- The half of the columns depends on a device's `y` alone. -/
theorem xIx_congr (c d : Dev nD) (h : hy c = hy d) (i : S512x512.Idx) : xIx c i = xIx d i := by
  unfold xIx; simp only [h]

/-- What a device hands on of its own half is what its `x` partner is to receive there. -/
theorem landed_relay (c : Dev nD) (k : Fin 4) {i : S512x512.Idx} (h : i ∈ rows (bD c k)) : landed m ρ c i = landed m ρ (xp c) i := by
  rw [landed_own m ρ c k h, landed_other m ρ (xp c) k (by rw [bR_xp]; exact h), xp_xp]
  unfold xAt; rw [xIx_congr c (xp c) (hy_xp c).symm]

/-! ## Reading and writing 64 rows -/

/-- Where an index of the 64 by 512 rectangle at row `b` sits. -/
theorem rect_emb_rows {off : Fin 2 → ℕ} {inb : ∀ a, off a + S64x512.size a ≤ S512x512.size a} {b : ℕ} (h : off = ![b, 0])
    (j : S64x512.Idx) (i : S512x512.Idx) (h0 : (i 0).val = b + (j 0).val) (h1 : (i 1).val = (j 1).val) :
    (Rect.unit (s := S512x512) off S64x512.size inb).emb j = i := by
  subst h
  funext a
  apply Fin.ext
  rw [Rect.emb_apply]
  fin_cases a
  · show b + 1 * (j 0).val = (i 0).val; omega
  · show 0 + 1 * (j 1).val = (i 1).val; omega

set_option backward.proofsInPublic true in
/-- The index within the 64 rows at `b` of an index among them. -/
def within (b : ℕ) (i : S512x512.Idx) (h : i ∈ rows b) : S64x512.Idx :=
  ix2 (n0 := 64) (n1 := 512) ⟨(i 0).val - b, by have := mem_rows.1 h; omega⟩ (i 1)

/-- An index of a block of 64 rows, placed in the whole, is itself. -/
theorem within_emb {off : Fin 2 → ℕ} {inb : ∀ a, off a + S64x512.size a ≤ S512x512.size a} {b : ℕ} (h : off = ![b, 0])
    (i : S512x512.Idx) (hi : i ∈ rows b) : (Rect.unit (s := S512x512) off S64x512.size inb).emb (within b i hi) = i :=
  rect_emb_rows h _ _ (by have := mem_rows.1 hi; show _ = b + ((i 0).val - b); omega) rfl

/-- A write of the 64 rows at `b` of the receive buffer, at an index among them. -/
theorem write_m {off : Fin 2 → ℕ} {inb : ∀ a, off a + S64x512.size a ≤ S512x512.size a} {b : ℕ} (h : off = ![b, 0])
    (f : (cc0_scratch1 : Ref sig .tc).ty.Contents (Elt F)) (w : S64x512.Idx → Elt F .bf16) (i : S512x512.Idx) (hi : i ∈ rows b) :
    (mV off inb).view.write (Elt F) f w Finset.univ i = w (within b i hi) := by
  have := View.write_emb_of_mem (v := (mV off inb).view) (Val := Elt F) f w (Finset.mem_univ (within b i hi))
  rw [show (mV off inb).view.emb (within b i hi) = i from within_emb h i hi] at this
  exact this

/-- A store of the 64 rows at `b` of the result, at an index among them. -/
theorem write_o {off : Fin 2 → ℕ} {inb : ∀ a, off a + S64x512.size a ≤ S512x512.size a} {b : ℕ} (h : off = ![b, 0])
    (f : (cc0_stg1_0 : Ref sig .tc).ty.Contents (Elt F)) (w : S64x512.Idx → Elt F .bf16) (i : S512x512.Idx) (hi : i ∈ rows b) :
    (oM.access (Rect.unit (s := S512x512) off S64x512.size inb) : View sig .tc _ _ _).write (Elt F) f w Finset.univ i = w (within b i hi) := by
  have := View.write_emb_of_mem (v := (oM.access (Rect.unit (s := S512x512) off S64x512.size inb) : View sig .tc _ _ _)) (Val := Elt F) f w (Finset.mem_univ (within b i hi))
  rw [show (oM.access (Rect.unit (s := S512x512) off S64x512.size inb) : View sig .tc _ _ _).emb (within b i hi) = i from within_emb h i hi] at this
  exact this

/-- A load of the 64 rows at `b` of the receive buffer. -/
theorem read_m {off : Fin 2 → ℕ} {inb : ∀ a, off a + S64x512.size a ≤ S512x512.size a} {b : ℕ} (h : off = ![b, 0])
    (f : (cc0_scratch1 : Ref sig .tc).ty.Contents (Elt F)) (i : S512x512.Idx) (hi : i ∈ rows b) :
    mM.view.readAt (Elt F) (Rect.unit (s := S512x512) off S64x512.size inb).toLoadRect f (within b i hi) = f i := by
  show f ((Rect.unit (s := S512x512) off S64x512.size inb).emb (within b i hi)) = f i
  rw [within_emb h i hi]

/-- The same rows read as a transfer's source. -/
theorem read_mV {off : Fin 2 → ℕ} {inb : ∀ a, off a + S64x512.size a ≤ S512x512.size a} {b : ℕ} (h : off = ![b, 0])
    (f : (cc0_scratch1 : Ref sig .tc).ty.Contents (Elt F)) (i : S512x512.Idx) (hi : i ∈ rows b) :
    (mV off inb).view.read (Elt F) f (within b i hi) = f i := by
  show f ((Rect.unit (s := S512x512) off S64x512.size inb).emb (within b i hi)) = f i
  rw [within_emb h i hi]

/-- A load of 64 rows of the input from row `b` and of 512 columns from column `512 y`, recast to 64 by 512. -/
theorem read_x (d : Dev nD) {off : Fin 3 → ℕ} {inb : ∀ a, off a + S1x64x512.size a ≤ S1x512x1024.size a} {b : ℕ}
    (c : Dev nD) (h : off = ![0, b, 512 * hy c]) (i : S512x512.Idx) (hi : i ∈ rows b) (hs : S1x64x512.ShapeCasts S64x512) :
    shapeCast S64x512 (xM.view.readAt (Elt F) (Rect.unit (s := S1x512x1024) off S1x64x512.size inb).toLoadRect (xstg m ρ d)) hs
      (within b i hi) = xAt m ρ c d i := by
  subst h
  refine (shapeCast_1ab_ab_apply (a := 64) (b := 512) _ _ _ _).trans ?_
  unfold xAt
  show xstg m ρ d ((Rect.unit (s := S1x512x1024) ![0, b, 512 * hy c] S1x64x512.size inb).emb _) = _
  refine congrArg (xstg m ρ d) ?_
  funext a
  apply Fin.ext
  rw [Rect.emb_apply]
  have := mem_rows.1 hi
  fin_cases a
  · rfl
  · show b + 1 * ((i 0).val - b) = (i 0).val; omega
  · show 512 * hy c + 1 * (i 1).val = 512 * hy c + (i 1).val; omega

/-- What a transfer reads from a slot of the send buffer just stored. -/
theorem read_sent {off : Fin 3 → ℕ} {inb : ∀ a, off a + S1x64x512.size a ≤ S4x64x512.size a}
    (f : (cc0_scratch0 : Ref sig .tc).ty.Contents (Elt F)) (v : S64x512.Idx → Elt F .bf16) (hs : S64x512.ShapeCasts S1x64x512) :
    (sV off inb).view.read (Elt F) ((sM.access (sR off inb) : View sig .tc _ _ _).write (Elt F) f (shapeCast S1x64x512 v hs) Finset.univ) = v := by
  funext j
  show (sM.access (sR off inb) : View sig .tc _ _ _).read (Elt F) ((sM.access (sR off inb) : View sig .tc _ _ _).write (Elt F) f (shapeCast S1x64x512 v hs) Finset.univ)
    (Shape.reshapeEquiv _ j) = v j
  rw [View.read_write_univ]
  exact congrFun (shapeCast_shapeCast v hs squeezes_S1x64x512_S64x512.numel_eq) j

end Cert.RelayProof

end
-- ==== Proof.Schedule.lean ====
/-
Who pays what to whom: the rounds of the barrier cells and of the completion cells, what is owed at launch, and the levels
that order the waits.
-/
module

public import proofs.«01_k».proof.Proof.Contents

@[expose] public section

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev D := Bool
abbrev UB : Type := URounds (GSem nD τ sig) D
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Pieces of the buffers -/

/-- The 64 rows from row `b` of device `d`'s receive buffer, at a share. -/
def mPts (d : Dev nD) (b : ℕ) (q : PosShare TreeShare) (f : (cc0_scratch1 : Ref sig .tc).ty.Contents (Elt F)) : sProp 𝕄 :=
  ((d : Thread nD τ).loc cc0_scratch1) ↦[rows b]{q} f
/-- Slot `k` of device `d`'s send buffer. -/
def sPts (d : Dev nD) (k : Fin 4) (f : (cc0_scratch0 : Ref sig .tc).ty.Contents (Elt F)) : sProp 𝕄 :=
  ((d : Thread nD τ).loc cc0_scratch0) ↦[slot k]{fullShare} f
/-- The 64 rows from row `b` of device `d`'s staged result. -/
def oPts (d : Dev nD) (b : ℕ) (f : (cc0_stg1_0 : Ref sig .tc).ty.Contents (Elt F)) : sProp 𝕄 :=
  ((d : Thread nD τ).loc cc0_stg1_0) ↦[rows b]{fullShare} f
/-- Device `d`'s staged input. -/
def xPts (d : Dev nD) : sProp 𝕄 := ((d : Thread nD τ).loc cc0_stg0_0) ↦{fullShare} xstg m ρ d

instance mPts_storable (d : Dev nD) (b : ℕ) (q : PosShare TreeShare) (f) : BI.Storable (upEmb : UEmb _ 𝕄) (mPts (F := F) d b q f) := by
  unfold mPts; infer_instance
instance sPts_storable (d : Dev nD) (k : Fin 4) (f) : BI.Storable (upEmb : UEmb _ 𝕄) (sPts (F := F) d k f) := by
  unfold sPts; infer_instance

/-! ## The rounds -/

/-- What a signal on `c`'s barrier cell hands `c`: from its `y` partner (`true`) and from its `x` partner (`false`), that
    partner's receive buffer on the rows `c` is going to write. -/
def barPay (c : Dev nD) (d : Bool) : sProp 𝕄 :=
  bigSep Finset.univ fun k : Fin 4 => iprop(∃ f, mPts (if d then yp c else xp c) (bD c k) fullShare f)

/-- What the completion of chunk `k` hands `c`, array by array: the send slot back; the chunk landed; the lent half share of
    the chunk handed on; the other half's chunk landed. -/
def qPay (c : Dev nD) (j k : Fin 4) : sProp 𝕄 :=
  match j with
  | 0 => iprop(∃ f, sPts c k f)
  | 1 => mPts c (bD c k) fullShare (landed m ρ c)
  | 2 => mPts c (bD c k) fullShare.left (landed m ρ c)
  | 3 => mPts c (bR c k) fullShare (landed m ρ c)

instance barPay_storable (c : Dev nD) (d : Bool) : BI.Storable (upEmb : UEmb _ 𝕄) (barPay (F := F) c d) := by
  unfold barPay; infer_instance
instance qPay_storable (c : Dev nD) (j k : Fin 4) : BI.Storable (upEmb : UEmb _ 𝕄) (qPay m ρ c j k) := by
  unfold qPay; split <;> infer_instance

/-- One round, round 0. A barrier cell has two duties of one unit each, one from each partner; a completion cell has one
    duty of a chunk's credit. -/
def Rd : Rounds.Schedule (GSem nD τ sig) D 𝕄 where
  duties g r := if r = 0 then (match g.2 with | .reg _ => Finset.univ | .dma _ => {false}) else ∅
  unitless _ := False
  amount g _ _ := match g.2 with | .reg _ => 1 | .dma _ => N
  payload g _ d := match g.2 with
    | .reg _ => barPay g.1.1 d
    | .dma q => match which q with
      | some jk => qPay m ρ g.1.1 jk.1 jk.2
      | none => iprop(emp)
  amount_pos g _ _ _ := by
    split
    · exact Nat.one_pos
    · exact N_pos

instance Rd_storable (g : GSem nD τ sig) (r : ℕ) (d : D) : BI.Storable (upEmb : UEmb _ 𝕄) ((Rd (F := F) m ρ).payload g r d) := by
  dsimp only [Rd]
  (repeat' split) <;> infer_instance

section Cells
variable (c : Dev nD) (j k : Fin 4)

theorem duties_bar : (Rd (F := F) m ρ).duties (barCell c) 0 = Finset.univ := rfl
theorem duties_q : (Rd (F := F) m ρ).duties (qCell c j k) 0 = {false} := rfl
theorem duties_later (g : GSem nD τ sig) : ∀ r, 1 ≤ r → (Rd (F := F) m ρ).duties g r = ∅ :=
  fun r hr => by dsimp only [Rd]; rw [if_neg (by omega)]
theorem amount_bar (d : D) : (Rd (F := F) m ρ).amount (barCell c) 0 d = 1 := rfl
theorem amount_q (d : D) : (Rd (F := F) m ρ).amount (qCell c j k) 0 d = N := rfl
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_q : (Rd (F := F) m ρ).expect (qCell c j k) 0 = N := by
  unfold Schedule.expect Schedule.amountOf; rw [duties_q, Finset.sum_singleton, amount_q]
theorem payload_bar (d : D) : (Rd (F := F) m ρ).payload (barCell c) 0 d = barPay c d := rfl
theorem payload_q (d : D) : (Rd (F := F) m ρ).payload (qCell c j k) 0 d = qPay m ρ c j k := by
  dsimp only [Rd]; rw [which_qs]

/-- All of a barrier cell's round: what both partners hand over. -/
theorem rest_bar : bigSep ((Rd (F := F) m ρ).duties (barCell c) 0 \ ∅) (fun d => (Rd (F := F) m ρ).payload (barCell c) 0 d)
    = iprop(barPay c true ∗ barPay c false) := by
  rw [Finset.sdiff_empty, duties_bar, bigSep_univ_eq_bigSepL [true, false] (by decide) (by decide), bigSepL_cons_cons, bigSepL_singleton]
  rfl
/-- All of a completion cell's round. -/
theorem rest_q : bigSep ((Rd (F := F) m ρ).duties (qCell c j k) 0 \ ∅) (fun d => (Rd (F := F) m ρ).payload (qCell c j k) 0 d)
    = qPay m ρ c j k := by
  rw [Finset.sdiff_empty, duties_q, bigSep_singleton, payload_q]

end Cells

/-! ## What is owed, and the levels -/

/-- The relays from chunk `n` on that device `c` owes its `x` partner, and the sends it owes its `y` partner. -/
def oX (c : Dev nD) (n : ℕ) : CellTallies nD τ sig Unit := ∑ k ∈ Finset.univ.filter (fun k : Fin 4 => n ≤ k.val), tallyAt (qCell (xp c) 3 k) () N
/-- The sends to the `y` partner that are still owed from chunk `n` on. -/
def oY (c : Dev nD) (n : ℕ) : CellTallies nD τ sig Unit := ∑ k ∈ Finset.univ.filter (fun k : Fin 4 => n ≤ k.val), tallyAt (qCell (yp c) 1 k) () N
/-- What it owes while it sends, before its second signal, and at launch. -/
def O₂ (c : Dev nD) (n : ℕ) : CellTallies nD τ sig Unit := oX c 0 + oY c n
/-- What is owed after the signal to the `y` partner. -/
def O₁ (c : Dev nD) : CellTallies nD τ sig Unit := O₂ c 0 + tallyAt (barCell (xp c)) () 1
/-- What is owed at launch. -/
def O₀ (c : Dev nD) : CellTallies nD τ sig Unit := O₁ c + tallyAt (barCell (yp c)) () 1

/-- The chunks from `k` on are chunk `k` and those from `k + 1` on. -/
theorem filter_peel (k : Fin 4) : Finset.univ.filter (fun i : Fin 4 => k.val ≤ i.val)
    = insert k (Finset.univ.filter (fun i : Fin 4 => k.val + 1 ≤ i.val)) := by revert k; decide
theorem filter_none : Finset.univ.filter (fun i : Fin 4 => 4 ≤ i.val) = ∅ := by decide

theorem oX_peel (c : Dev nD) (k : Fin 4) : oX c k.val = oX c (k.val + 1) + tallyAt (qCell (xp c) 3 k) () N := by
  unfold oX; rw [filter_peel, Finset.sum_insert (by simp), add_comm]
theorem oY_peel (c : Dev nD) (k : Fin 4) : oY c k.val = oY c (k.val + 1) + tallyAt (qCell (yp c) 1 k) () N := by
  unfold oY; rw [filter_peel, Finset.sum_insert (by simp), add_comm]
theorem O₂_peel (c : Dev nD) (k : Fin 4) : O₂ c k.val = O₂ c (k.val + 1) + tallyAt (qCell (yp c) 1 k) () N := by
  unfold O₂; rw [oY_peel, add_assoc]
theorem oX_four (c : Dev nD) : oX c 4 = 0 := by unfold oX; rw [filter_none, Finset.sum_empty]
theorem O₂_four (c : Dev nD) : O₂ c 4 = oX c 0 := by unfold O₂ oY; rw [filter_none, Finset.sum_empty, add_zero]

/-- The levels' indices: one for each semaphore of a TensorCore. -/
def L (g : GSem nD τ sig) : Finset Unit := if g.1.2 = .tc then {()} else ∅
/-- Barrier cells at 1, `y` received at 2, `x` received at 3, all other cells at 0. -/
def lvs (sm : SemLoc sig) : ℕ := match sm with
  | .reg _ => 1
  | .dma q => match which q with
    | some jk => if jk.1 = 1 then 2 else if jk.1 = 3 then 3 else 0
    | none => 0
/-- A semaphore's level. -/
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

/-- Everything an obligation names is a TensorCore's cell above level `n`. -/
def Above (n : ℕ) (O : CellTallies nD τ sig Unit) : Prop := ∀ g u, 0 < O g u → g.1.2 = .tc ∧ n < lv g u

theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_zero (n : ℕ) : Above n 0 := fun g u hg => absurd hg (Nat.lt_irrefl 0)
theorem above_sum {n : ℕ} {S : Finset (Fin 4)} {O : Fin 4 → CellTallies nD τ sig Unit} (h : ∀ k, Above n (O k)) : Above n (∑ k ∈ S, O k) :=
  Finset.sum_induction O (Above n) (fun _ _ => above_add) (above_zero n) (fun k _ => h k)
theorem above_tally {n : ℕ} (c : Dev nD) (sm : SemLoc sig) (a : ℕ) (h : n < lvs sm) : Above n (tallyAt ((c : Thread nD τ), sm) () a) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem lvs_q (j k : Fin 4) : lvs (.dma (qs j k)) = if j = 1 then 2 else if j = 3 then 3 else 0 := by
  unfold lvs; simp only [which_qs]
theorem lvs_bar : lvs (.reg barS) = 1 := rfl

theorem above_oX (c : Dev nD) (n : ℕ) : Above 2 (oX c n) := above_sum fun k => above_tally _ _ _ (by rw [lvs_q]; decide)
theorem above_oY (c : Dev nD) (n : ℕ) : Above 1 (oY c n) := above_sum fun k => above_tally _ _ _ (by rw [lvs_q]; decide)
theorem Above.le {n n' : ℕ} {O : CellTallies nD τ sig Unit} (h : Above n O) (hn : n' ≤ n) : Above n' O := fun g u hg =>
  ⟨(h g u hg).1, lt_of_le_of_lt hn (h g u hg).2⟩
theorem above_O₂ (c : Dev nD) (n : ℕ) : Above 1 (O₂ c n) := above_add ((above_oX c 0).le (by decide)) (above_oY c n)
/-- All that is owed at launch is owed to cells above level 0. -/
theorem above_O₀ (c : Dev nD) : Above 0 (O₀ c) :=
  above_add (above_add ((above_O₂ c 0).le (by decide)) (above_tally _ _ _ (by decide))) (above_tally _ _ _ (by decide))

/-- A wait on a semaphore is allowed when all that is owed lies at higher levels. -/
theorem mayWait_above (c : Dev nD) (sm : SemLoc sig) {n : ℕ} (O : CellTallies nD τ sig Unit) (h : Above n O) (hs : lvs sm ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by have := (h g u hg).1; unfold L; rw [if_pos this]; exact Finset.mem_singleton_self _)
    (fun p hp => by rw [Finset.mem_singleton.mp hp]; exact hs)
    (fun g u hg => (h g u hg).2)

end Cert.RelayProof

end
-- ==== Proof.Steps.lean ====
/-
One lemma per step of the kernel: filling a slot, sending it, waiting, relaying a chunk, adding a chunk into the result.
Each is stated once, for every chunk, every device and every form the program gives an offset.
-/
module

public import proofs.«01_k».proof.Proof.Schedule

@[expose] public section

set_option maxRecDepth 16384

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to a state satisfying `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The cells of the protocol. -/
abbrev CI : Type := Unit ⊕ (Fin 4 × Fin 4)

/-- Every cell's invariant, under the names `K`, and that every cell has reached round 0. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

theorem all_inv (ck : Dev nD × CI) : (bigSep Finset.univ fun ck : Dev nD × CI => (cellInv ER (Rd m ρ) (K ck) (kcell ck) : sProp 𝕄))
    ⊢ cellInv ER (Rd m ρ) (K ck) (kcell ck) := bigSep_elim (Finset.mem_univ ck)
theorem all_reached (ck : Dev nD × CI) : (bigSep Finset.univ fun ck : Dev nD × CI => (reached ER (kcell ck) 0 : sProp 𝕄))
    ⊢ reached ER (kcell ck) 0 := bigSep_elim (Finset.mem_univ ck)
/-- Any cell's invariant, from the records. -/
theorem records_inv (ck : Dev nD × CI) : records m ρ K ⊢ cellInv ER (Rd m ρ) (K ck) (kcell ck) := by
  unfold records
  iintro ⟨HI, -⟩
  iapply (all_inv m ρ K ck); iexact HI
/-- That any cell is in its first round, from the records. -/
theorem records_reached (ck : Dev nD × CI) : records m ρ K ⊢ reached ER (kcell ck) 0 := by
  unfold records
  iintro ⟨-, HR⟩
  iapply (all_reached (F := F) ck); iexact HR

theorem inv_q (c : Dev nD) (j k : Fin 4) : records m ρ K ⊢ cellInv ER (Rd m ρ) (K (c, .inr (j, k))) (qCell c j k) :=
  records_inv m ρ K (c, .inr (j, k))
theorem inv_bar (c : Dev nD) : records m ρ K ⊢ cellInv ER (Rd m ρ) (K (c, .inl ())) (barCell c) := records_inv m ρ K (c, .inl ())
theorem reached_q (c : Dev nD) (j k : Fin 4) : records m ρ K ⊢ reached ER (qCell c j k) 0 := records_reached m ρ K (c, .inr (j, k))
theorem reached_bar (c : Dev nD) : records m ρ K ⊢ reached ER (barCell c) 0 := records_reached m ρ K (c, .inl ())

/-- What device `c` owes, whatever it has waited for so far. -/
def owing (c : Dev nD) (O : CellTallies nD τ sig Unit) : sProp 𝕄 := iprop(∃ W, owes (c : Thread nD τ) O W)

/-! ## The steps on the device's own buffers -/

/-- Slot `k` filled: what a transfer reads from it is, on the chunk's rows, the input the `y` partner is to add. -/
def ready (c : Dev nD) (k : Fin 4) : sProp 𝕄 :=
  iprop(∃ f, ⌜∀ (off : Fin 3 → ℕ) (inb : ∀ a, off a + S1x64x512.size a ≤ S4x64x512.size a), off = ![k.val, 0, 0] →
      ∀ i (hi : i ∈ rows (bD c k)), (sV off inb).view.read (Elt F) f (within (bD c k) i hi) = xAt m ρ (yp c) c i⌝ ∗ sPts c k f)

/-- Loading from the staged input, which stays. -/
theorem step_x (c : Dev nD) {r : LoadRect S1x512x1024} {hl : xM.view.LoadsAt r} {α : Type} {Q : α → sProp 𝕄}
    {k' : (r.shape.Idx → Elt F .bf16) → Prog (TpuEff nD τ sig (Elt F) Λ₀ .tc) α} :
    xPts m ρ c ⊢ iprop((xPts m ρ c -∗ wpc c (k' (xM.view.readAt (Elt F) r (xstg m ρ c))) Q) -∗ wpc c (.op (.load xM r hl) k') Q) := by
  unfold xPts
  exact wp_load 𝒱₀ (c : Thread nD τ) none Set.univ (m := xM) (Finset.subset_univ _)

/-- Filling slot `k` with the chunk's rows of the partner's half of the columns, after a load that is not used. -/
theorem step_fill (c : Dev nD) (k : Fin 4) {off : Fin 3 → ℕ} (hoff : off = ![k.val, 0, 0]) {offx : Fin 3 → ℕ}
    (hoffx : offx = ![0, bD c k, 512 * hy (yp c)]) {inb : ∀ a, off a + S1x64x512.size a ≤ S4x64x512.size a}
    {inbx : ∀ a, offx a + S1x64x512.size a ≤ S1x512x1024.size a}
    {w : S1x64x512.Idx → Elt F .bf16}
    (hw : w = shapeCast S1x64x512 (shapeCast S64x512 (xM.view.readAt (Elt F) (Rect.unit (s := S1x512x1024) offx S1x64x512.size inbx).toLoadRect (xstg m ρ c))
      shapeCasts_S1x64x512_S64x512) shapeCasts_S64x512_S1x64x512)
    {hl : sM.view.LoadsAt (sR off inb).toLoadRect} {hx : (sM.access (sR off inb)).Stores Finset.univ}
    {hm} {α : Type} {Q : α → sProp 𝕄}
    {k' : PUnit → Prog (TpuEff nD τ sig (Elt F) Λ₀ .tc) α} :
    iprop(∃ f, sPts c k f) ⊢ iprop((ready m ρ c k -∗ wpc c (k' ⟨⟩) Q)
      -∗ wpc c (.op (.load sM (sR off inb).toLoadRect hl) fun _ => .op (.store sM (sR off inb) w Finset.univ hx hm) k') Q) := by
  subst hoff
  unfold sPts
  iintro ⟨%f, Hs⟩ Hk
  iapply (wp_load_rect 𝒱₀ (c : Thread nD τ) none Set.univ (m := sM) (r := sR ![k.val, 0, 0] inb) (S := slot k)
    (by rw [View.set_slice_whole]; exact (rect_slot rfl).subset)) $$ Hs
  iintro Hs
  iapply (wp_store 𝒱₀ (c : Thread nD τ) none Set.univ (m := sM) (r := sR ![k.val, 0, 0] inb) (Mk := Finset.univ) (S := slot k)
    (by
      show ((View.whole cc0_scratch0).slice (sR ![k.val, 0, 0] inb)).set ⊆ _
      rw [View.set_slice_whole]; exact (rect_slot rfl).subset)) $$ Hs
  iintro Hs
  iapply Hk
  unfold ready sPts
  iexists ((sM.access (sR ![k.val, 0, 0] inb) : View sig .tc _ _ _).write (Elt F) f w Finset.univ)
  isplitr
  · ipureintro
    intro off' inb' h' i hi
    subst h'
    rw [hw, read_sent]
    exact read_x m ρ c (yp c) hoffx i hi _
  iexact Hs

/-- Adding a chunk: its rows of what was received are loaded, and their sums with the device's own input stored. -/
theorem step_add (c : Dev nD) (b : ℕ) {q : PosShare TreeShare} {off off' : Fin 2 → ℕ} (hoff : off = ![b, 0]) (hoff' : off' = ![b, 0])
    {offx : Fin 3 → ℕ} (hoffx : offx = ![0, b, 512 * hy c]) {inb : ∀ a, off a + S64x512.size a ≤ S512x512.size a}
    {inb' : ∀ a, off' a + S64x512.size a ≤ S512x512.size a}
    {inbx : ∀ a, offx a + S1x64x512.size a ≤ S1x512x1024.size a}
    {w : (S64x512.Idx → Elt F .bf16) → S64x512.Idx → Elt F .bf16}
    (hw : ∀ v, w v = addf (shapeCast S64x512 (xM.view.readAt (Elt F) (Rect.unit (s := S1x512x1024) offx S1x64x512.size inbx).toLoadRect (xstg m ρ c))
      shapeCasts_S1x64x512_S64x512) v)
    {hl : mM.view.LoadsAt (Rect.unit (s := S512x512) off S64x512.size inb).toLoadRect}
    {hl' : oM.view.LoadsAt (Rect.unit (s := S512x512) off' S64x512.size inb').toLoadRect}
    {hx : (oM.access (Rect.unit (s := S512x512) off' S64x512.size inb')).Stores Finset.univ}
    {hm} {α : Type} {Q : α → sProp 𝕄}
    {k' : PUnit → Prog (TpuEff nD τ sig (Elt F) Λ₀ .tc) α} :
    iprop(mPts c b q (landed m ρ c) ∗ ∃ f, oPts c b f) ⊢ iprop(((mPts c b q (landed m ρ c) ∗ oPts c b (outAt m ρ c)) -∗ wpc c (k' ⟨⟩) Q)
      -∗ wpc c (.op (.load mM (Rect.unit (s := S512x512) off S64x512.size inb).toLoadRect hl) fun v =>
        .op (.load oM (Rect.unit (s := S512x512) off' S64x512.size inb').toLoadRect hl') fun _ =>
        .op (.store oM (Rect.unit (s := S512x512) off' S64x512.size inb') (w v) Finset.univ hx hm) k') Q) := by
  subst hoff hoff'
  unfold mPts oPts
  iintro ⟨Hm, ⟨%f, Ho⟩⟩ Hk
  iapply (wp_load 𝒱₀ (c : Thread nD τ) none Set.univ (m := mM) (r := (Rect.unit (s := S512x512) ![b, 0] S64x512.size inb).toLoadRect) (S := rows b)
    ((View.set_slice mM.view (Rect.unit (s := S512x512) ![b, 0] S64x512.size inb)).symm.trans
      ((View.set_slice_whole cc0_scratch1 _).trans (rect_rows rfl))).subset) $$ Hm
  iintro Hm
  iapply (wp_load_rect 𝒱₀ (c : Thread nD τ) none Set.univ (m := oM) (r := Rect.unit (s := S512x512) ![b, 0] S64x512.size inb') (S := rows b)
    (by rw [View.set_slice_whole]; exact (rect_rows rfl).subset)) $$ Ho
  iintro Ho
  iapply (wp_store 𝒱₀ (c : Thread nD τ) none Set.univ (m := oM) (r := Rect.unit (s := S512x512) ![b, 0] S64x512.size inb') (Mk := Finset.univ) (S := rows b)
    (by
      show ((View.whole cc0_stg1_0).slice (Rect.unit (s := S512x512) ![b, 0] S64x512.size inb')).set ⊆ _
      rw [View.set_slice_whole]; exact (rect_rows rfl).subset)) $$ Ho
  iintro Ho
  iapply Hk
  isplitl [Hm]; · iexact Hm
  iapply (Entails.of_eq (pointsTo_congr (ℓ := (c : Thread nD τ).loc cc0_stg1_0) (I := rows b) (q := fullShare) fun i hi => by
    rw [write_o rfl _ _ i hi, hw]
    show FloatOps.addf _ _ = outAt m ρ c i
    rw [read_x m ρ c c hoffx i hi, read_m rfl _ i hi]
    rfl)) $$ Ho

/-! ## Waiting and sending -/

/-- Waiting for a completion: the cell's payload comes, the cell's round is over. -/
theorem step_wait (c : Dev nD) (j k : Fin 4) {q : DmaSem sig} (hq : q = qs j k) (O : CellTallies nD τ sig Unit) {n : ℕ} (h : Above n O)
    (hn : lvs (.dma (qs j k)) ≤ n) {sp sp' : Space} {s s' : Shape} {src : Memref sig .tc sp s .bf16} {dst : Memref sig .tc sp' s' .bf16}
    (hN : dst.view.dmaCredit = N) {h₁} {h₂} {α : Type} {Q : α → sProp 𝕄} {k' : PUnit → Prog (TpuEff nD τ sig (Elt F) Λ₀ .tc) α} :
    iprop(records m ρ K ∗ levAts L lv ∗ cred (tallyAt (qCell c j k) () N) ∗ owing c O ∗ atPos ER (qCell c j k) 0 ∅ 0)
      ⊢ iprop(((owing c O ∗ atPos ER (qCell c j k) (0 + 1) ∅ 0 ∗ qPay m ρ c j k) -∗ wpc c (k' ⟨⟩) Q)
        -∗ wpc c (.op (.waitDma2 q src dst h₁ h₂) k') Q) := by
  subst hq
  unfold owing
  iintro ⟨#HR, #Hlev, Hc, ⟨%W, HO⟩, Hat⟩ Hk
  iapply (Rounds.wp_wait_rest_token 𝒱₀ ER (Rd m ρ) (c : Thread nD τ) none (κ := K (c, .inr (j, k)))
      (wpE_waitDma2_eq 𝒱₀ (c : Thread nD τ) none Set.univ) (Set.mem_univ _) () (O := O) (W := W) (R := 0) (m := 0) (T := ∅)
      (by rw [Nat.zero_add, expect_q, hN])) $$ [Hc HO Hat]
  · isplitr; · iapply (inv_q m ρ K c j k); iexact HR
    isplitl [Hc]; · rw [hN]; iexact Hc
    isplitl [HO]; · iexact HO
    isplitr; · iapply (mayWait_above c (.dma (qs j k)) O h hn); iexact Hlev
    iexact Hat
  iintro ⟨HO, Hat, -, Hpay⟩
  ihave Hp := (Entails.of_eq (rest_q m ρ c j k)) $$ Hpay
  iapply Hk
  isplitl [HO]; · iexists _; iexact HO
  isplitl [Hat]; · iexact Hat
  iexact Hp

/-- The wait on the barrier for both partners' signals: they bring the rows of their receive buffers that are to be written. -/
theorem step_barrier (c : Dev nD) {s : Sem sig} (hs : s = barS) (O : CellTallies nD τ sig Unit) (h : Above 1 O) {n : ℕ} (hn : n = 2)
    {α : Type} {Q : α → sProp 𝕄} {k' : PUnit → Prog (TpuEff nD τ sig (Elt F) Λ₀ .tc) α} :
    iprop(records m ρ K ∗ levAts L lv ∗ cred (tallyAt (barCell c) () 2) ∗ owing c O ∗ atPos ER (barCell c) 0 ∅ 0)
      ⊢ iprop(((owing c O ∗ atPos ER (barCell c) (0 + 1) ∅ 0 ∗ barPay c true ∗ barPay c false) -∗ wpc c (k' ⟨⟩) Q)
        -∗ wpc c (.op (.semWait s n) k') Q) := by
  subst hs hn
  unfold owing
  iintro ⟨#HR, #Hlev, Hc, ⟨%W, HO⟩, Hat⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_above c (.reg barS) O h (by decide)); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- A signal on a partner's barrier: it hands over the rows of the own receive buffer which that partner is to write. -/
theorem step_signal (c n : Dev nD) (d : Bool) {n' : Dev nD} (hn' : n' = n) (hd : (if d then yp n else xp n) = c) {s : Sem sig} (hs : s = barS)
    (O : CellTallies nD τ sig Unit) {a : ℕ} (ha : a = 1)
    {α : Type} {Q : α → sProp 𝕄} {k' : PUnit → Prog (TpuEff nD τ sig (Elt F) Λ₀ .tc) α} :
    iprop(records m ρ K ∗ owing c (O + tallyAt (barCell n) () 1) ∗ dutyTok ER (barCell n) 0 d
        ∗ (bigSep Finset.univ fun k : Fin 4 => iprop(∃ f, mPts c (bD n k) fullShare f)))
      ⊢ iprop((owing c O -∗ wpc c (k' ⟨⟩) Q) -∗ wpc c (.op (.semSignal (n' : Thread nD τ) s a) k') Q) := by
  subst hn' hs ha
  unfold owing
  iintro ⟨#HR, ⟨%W, HO⟩, Ht, Hm⟩ Hk
  iapply (Rounds.wp_signal 𝒱₀ ER (Rd m ρ) (c : Thread nD τ) none (dst := (n' : Thread nD τ)) (κ := K (n', .inl ()))
      (d := d) (by rw [duties_bar]; exact Finset.mem_univ _) (amount_bar m ρ n' d) () O rfl) $$ [HO Ht Hm]
  · isplitr; · iapply (inv_bar m ρ K n'); iexact HR
    isplitl [HO]; · iexact HO
    isplitl [Ht]; · iexact Ht
    isplitl [Hm]; · rw [payload_bar]; unfold barPay; rw [hd]; iexact Hm
    iapply (reached_bar m ρ K n'); iexact HR
  iintro HO
  iapply Hk
  iexists _; iexact HO

/-- Sending slot `k` to the `y` partner: the slot is lent, the chunk lands in the partner's rows. -/
theorem step_send (c : Dev nD) (k : Fin 4) {a a' : ℕ} (ha : a = k.val) (ha' : a' = k.val + 1) {n : Dev nD} (hn : n = yp c) {q₁ q₂ : DmaSem sig} (h₁ : q₁ = qs 0 k) (h₂ : q₂ = qs 1 k)
    {off : Fin 3 → ℕ} (hoff : off = ![k.val, 0, 0]) {off' : Fin 2 → ℕ} (hoff' : off' = ![bD c k, 0])
    {inb : ∀ a, off a + S1x64x512.size a ≤ S4x64x512.size a} {inb' : ∀ a, off' a + S64x512.size a ≤ S512x512.size a}
    {hsc : (mV off' inb' : Memref sig (Dev.tc n : Thread nD τ).2.kind .vmem S64x512 .bf16).view.ref.isScScratch = false}
    {hsrc : (sV off inb).view.WordExact} {hdst : (mV off' inb').view.WordExact}
    {hsem : DmaTarget.Typed .vmem (.dma q₂) (.remote (Dev.tc n : Thread nD τ) (mV off' inb') (.dma q₁) hsc)}
    {α : Type} {Q : α → sProp 𝕄} {k' : PUnit → Prog (TpuEff nD τ sig (Elt F) Λ₀ .tc) α} :
    iprop(records m ρ K ∗ ready m ρ c k ∗ (∃ f, mPts (yp c) (bD c k) fullShare f) ∗ owing c (O₂ c a)
        ∗ dutyTok ER (qCell c 0 k) 0 false ∗ dutyTok ER (qCell (yp c) 1 k) 0 false)
      ⊢ iprop(((cred (tallyAt (qCell c 0 k) () N) ∗ owing c (O₂ c a')) -∗ wpc c (k' ⟨⟩) Q)
        -∗ wpc c (.op (.enqueueDma (sV off inb) (.remote (Dev.tc n : Thread nD τ) (mV off' inb') (.dma q₁) hsc) (.dma q₂) hsrc hdst hsem) k') Q) := by
  subst hn h₁ h₂ ha ha'
  unfold owing ready sPts mPts
  iintro ⟨#HR, ⟨%fs, %hfs, Hs⟩, ⟨%fd, Hm⟩, ⟨%W, HO⟩, Ht, Ht'⟩ Hk
  iapply (Rounds.wp_send_pointsTo 𝒱₀ ER (Rd m ρ) (c : Thread nD τ) none (κ₁ := K (c, .inr (0, k))) (κ₂ := K (yp c, .inr (1, k)))
    (c' := (yp c : Thread nD τ)) (src := sV off inb) (dst := mV off' inb') (sS := .dma (qs 0 k)) (sem := .dma (qs 1 k)) (q := fullShare) (fs := fs)
    (r₁ := 0) (r₂ := 0) (d₁ := false) (d₂ := false) (fd := fd)
    (by rw [duties_q]; exact Finset.mem_singleton_self _) (by rw [duties_q]; exact Finset.mem_singleton_self _)
    () () N rfl (amount_q m ρ c 0 k false) (amount_q m ρ (yp c) 1 k false) (O₂ c (k.val + 1)) (O₂_peel c k) (W := W)
    (by
      rw [payload_q, sV_set hoff]; unfold qPay sPts
      iintro H; iexists fs; iexact H)
    (by
      rw [payload_q, mV_set hoff']; unfold qPay mPts; rw [bD_yp]
      exact Entails.of_eq (pointsTo_congr (ℓ := (yp c : Thread nD τ).loc cc0_scratch1) (I := rows (bD c k)) (q := fullShare) fun i hi => by
        rw [write_m hoff' _ _ i hi, hfs off inb hoff i hi, landed_own m ρ (yp c) k (by rw [bD_yp]; exact hi), yp_yp]))) $$ [Hs Hm HO Ht Ht']
  · isplitr; · iapply (inv_q m ρ K c 0 k); iexact HR
    isplitr; · iapply (inv_q m ρ K (yp c) 1 k); iexact HR
    isplitl [Hs]; · rw [sV_set hoff]; iexact Hs
    isplitl [Hm]; · rw [mV_set hoff']; iexact Hm
    isplitl [HO]; · iexact HO
    isplitl [Ht]; · iexact Ht
    isplitr; · iapply (reached_q m ρ K c 0 k); iexact HR
    isplitl [Ht']; · iexact Ht'
    iapply (reached_q m ρ K (yp c) 1 k); iexact HR
  iintro ⟨Hc, HO⟩
  iapply Hk
  isplitl [Hc]; · iexact Hc
  iexists _; iexact HO

/-- Handing chunk `k` on to the `x` partner: half the share of its rows is lent, and the chunk lands in the partner's rows. -/
theorem step_relay (c : Dev nD) (k : Fin 4) {a a' : ℕ} (ha : a = k.val) (ha' : a' = k.val + 1) {n : Dev nD} (hn : n = xp c) {q₁ q₂ : DmaSem sig} (h₁ : q₁ = qs 2 k) (h₂ : q₂ = qs 3 k)
    {off' : Fin 2 → ℕ} (hoff' : off' = ![bD c k, 0]) {inb' : ∀ a, off' a + S64x512.size a ≤ S512x512.size a}
    {hsc : (mV off' inb' : Memref sig (Dev.tc n : Thread nD τ).2.kind .vmem S64x512 .bf16).view.ref.isScScratch = false}
    {hsrc : (mV off' inb').view.WordExact} {hdst : (mV off' inb').view.WordExact}
    {hsem : DmaTarget.Typed .vmem (.dma q₂) (.remote (Dev.tc n : Thread nD τ) (mV off' inb') (.dma q₁) hsc)}
    {α : Type} {Q : α → sProp 𝕄} {k' : PUnit → Prog (TpuEff nD τ sig (Elt F) Λ₀ .tc) α} :
    iprop(records m ρ K ∗ mPts c (bD c k) fullShare (landed m ρ c) ∗ (∃ f, mPts (xp c) (bD c k) fullShare f) ∗ owing c (oX c a)
        ∗ dutyTok ER (qCell c 2 k) 0 false ∗ dutyTok ER (qCell (xp c) 3 k) 0 false)
      ⊢ iprop(((cred (tallyAt (qCell c 2 k) () N) ∗ owing c (oX c a') ∗ mPts c (bD c k) fullShare.right (landed m ρ c)) -∗ wpc c (k' ⟨⟩) Q)
        -∗ wpc c (.op (.enqueueDma (mV off' inb') (.remote (Dev.tc n : Thread nD τ) (mV off' inb') (.dma q₁) hsc) (.dma q₂) hsrc hdst hsem) k') Q) := by
  subst hn h₁ h₂ ha ha'
  unfold owing mPts
  iintro ⟨#HR, Hs, ⟨%fd, Hm⟩, ⟨%W, HO⟩, Ht, Ht'⟩ Hk
  ihave Hsp := (pointsTo_share (PosShare.mem_left_op_right fullShare)).1 $$ Hs
  icases Hsp with ⟨Hs, Hs'⟩
  iapply (Rounds.wp_send_pointsTo 𝒱₀ ER (Rd m ρ) (c : Thread nD τ) none (κ₁ := K (c, .inr (2, k))) (κ₂ := K (xp c, .inr (3, k)))
    (c' := (xp c : Thread nD τ)) (src := mV off' inb') (dst := mV off' inb') (sS := .dma (qs 2 k)) (sem := .dma (qs 3 k)) (q := fullShare.left) (fs := landed m ρ c)
    (r₁ := 0) (r₂ := 0) (d₁ := false) (d₂ := false) (fd := fd)
    (by rw [duties_q]; exact Finset.mem_singleton_self _) (by rw [duties_q]; exact Finset.mem_singleton_self _)
    () () N rfl (amount_q m ρ c 2 k false) (amount_q m ρ (xp c) 3 k false) (oX c (k.val + 1)) (oX_peel c k) (W := W)
    (by
      rw [payload_q, mV_set hoff']; unfold qPay mPts
      exact BI.Entails.refl _)
    (by
      rw [payload_q, mV_set hoff']; unfold qPay mPts; rw [bR_xp]
      exact Entails.of_eq (pointsTo_congr (ℓ := (xp c : Thread nD τ).loc cc0_scratch1) (I := rows (bD c k)) (q := fullShare) fun i hi => by
        rw [write_m hoff' _ _ i hi, read_mV hoff' _ i hi, landed_relay m ρ c k hi]))) $$ [Hs Hm HO Ht Ht']
  · isplitr; · iapply (inv_q m ρ K c 2 k); iexact HR
    isplitr; · iapply (inv_q m ρ K (xp c) 3 k); iexact HR
    isplitl [Hs]; · rw [mV_set hoff']; iexact Hs
    isplitl [Hm]; · rw [mV_set hoff']; iexact Hm
    isplitl [HO]; · iexact HO
    isplitl [Ht]; · iexact Ht
    isplitr; · iapply (reached_q m ρ K c 2 k); iexact HR
    isplitl [Ht']; · iexact Ht'
    iapply (reached_q m ρ K (xp c) 3 k); iexact HR
  iintro ⟨Hc, HO⟩
  iapply Hk
  isplitl [Hc]; · iexact Hc
  isplitl [HO]; · iexists _; iexact HO
  iexact Hs'

end Cert.RelayProof

end
-- ==== Proof.Parts.lean ====
/-
The kernel's parts, each run from the pieces it needs to the pieces it leaves.
-/
module

public import proofs.«01_k».proof.Proof.Steps

@[expose] public section

set_option maxRecDepth 16384

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The program's offsets, devices and semaphores -/

/-- Each family of offsets the program computes, as the rows and columns it stands for. -/
theorem o1 (c : Dev nD) (k : Fin 4) (w : BitVec 32) (hw : w = BitVec.ofNat 32 (64 * k.val)) : k0_off1 c w = ![0, bD c k, 512 * hy (yp c)] := by
  subst hw; rw [k0_off1_eq, hy_yp]; unfold bD; rw [Nat.mul_sub]
theorem o2 (c : Dev nD) (k : Fin 4) (w : BitVec 32) (hw : w = BitVec.ofNat 32 (64 * k.val)) : k0_off2 c w = ![bD c k, 0] := by
  subst hw; exact k0_off2_eq c k
theorem o3 (c : Dev nD) (k : Fin 4) (w : BitVec 32) (hw : w = BitVec.ofNat 32 (64 * k.val)) : k0_off3 c w = ![0, bD c k, 512 * hy c] := by
  subst hw; exact k0_off3_eq c k
theorem o4 (c : Dev nD) (k : Fin 4) (w : BitVec 32) (hw : w = BitVec.ofNat 32 (64 * k.val)) : k0_off4 c w = ![bD c k, 0] := by
  subst hw; exact k0_off4_eq c k
theorem o5 (c : Dev nD) (k : Fin 4) (w : BitVec 32) (hw : w = BitVec.ofNat 32 (64 * k.val)) : k0_off5 c w = ![0, bR c k, 512 * hy c] := by
  subst hw; exact k0_off5_eq c k
theorem o7 (c : Dev nD) (k : Fin 4) (w : BitVec 32) (hw : w = BitVec.ofNat 32 (64 * k.val)) : k0_off7 c w = ![bR c k, 0] := by
  subst hw; exact k0_off7_eq c k

/-- A completion semaphore as the program takes it out of its array. -/
abbrev ps (a : DmaSems sig S4) (off : Fin 1 → ℕ) (inb : ∀ i, off i + S1.size i ≤ S4.size i) : DmaSem sig :=
  ((a.slice (Rect.unit (s := S4) off S1.size inb)).squeeze S_ squeezes_S1_S_).sem

/-- The rows of the input that the program reads from an offset. -/
abbrev xRd (c : Dev nD) (off : Fin 3 → ℕ) (inb : ∀ a, off a + S1x64x512.size a ≤ S1x512x1024.size a) : Vec F S1x64x512 .bf16 :=
  xM.view.readAt (Elt F) (Rect.unit (s := S1x512x1024) off S1x64x512.size inb).toLoadRect (xstg m ρ c)

/-- A finished program hands its value on. -/
theorem wpc_ret (c : Dev nD) {α : Type} (v : α) (Q : α → sProp 𝕄) : Q v ⊢ wpc (F := F) c (.ret v) Q := by
  unfold wpc; rw [wp_ret]; iintro H; imodintro; iexact H

/-! ## What each chunk needs -/

/-- To send chunk `k`: the slot, the partner's rows, and the two duties. -/
def chunkA (c : Dev nD) (k : Fin 4) : sProp 𝕄 :=
  iprop((∃ f, sPts c k f) ∗ (∃ f, mPts (yp c) (bD c k) fullShare f) ∗ dutyTok ER (qCell c 0 k) 0 false ∗ dutyTok ER (qCell (yp c) 1 k) 0 false)
/-- To receive chunk `k`, hand it on and add it: the wait, the other partner's rows, the two duties, and the result's rows. -/
def chunkB (c : Dev nD) (k : Fin 4) : sProp 𝕄 :=
  iprop(atPos ER (qCell c 1 k) 0 ∅ 0 ∗ cred (tallyAt (qCell c 1 k) () N) ∗ (∃ f, mPts (xp c) (bD c k) fullShare f)
    ∗ dutyTok ER (qCell c 2 k) 0 false ∗ dutyTok ER (qCell (xp c) 3 k) 0 false ∗ ∃ f, oPts c (bD c k) f)
/-- What a relayed chunk leaves. -/
def doneB (c : Dev nD) (k : Fin 4) : sProp 𝕄 :=
  iprop(atPos ER (qCell c 1 k) (0 + 1) ∅ 0 ∗ cred (tallyAt (qCell c 2 k) () N) ∗ mPts c (bD c k) fullShare.right (landed m ρ c)
    ∗ oPts c (bD c k) (outAt m ρ c))
/-- To receive the other half's chunk `k` and add it: the wait and the result's rows. -/
def chunkC (c : Dev nD) (k : Fin 4) : sProp 𝕄 :=
  iprop(atPos ER (qCell c 3 k) 0 ∅ 0 ∗ cred (tallyAt (qCell c 3 k) () N) ∗ ∃ f, oPts c (bR c k) f)
/-- What a chunk received over the relay leaves. -/
def doneC (c : Dev nD) (k : Fin 4) : sProp 𝕄 :=
  iprop(atPos ER (qCell c 3 k) (0 + 1) ∅ 0 ∗ mPts c (bR c k) fullShare (landed m ρ c) ∗ oPts c (bR c k) (outAt m ρ c))

/-- Receiving chunk `k`, handing it on and adding it, as the program does them one after another. -/
theorem seg_relay (c : Dev nD) (k : Fin 4) {a a' : ℕ} (ha : a = k.val) (ha' : a' = k.val + 1) {n : Dev nD} (hn : n = xp c)
    {q₀ q₁ q₂ : DmaSem sig} (h₀ : q₀ = qs 1 k) (h₁ : q₁ = qs 2 k) (h₂ : q₂ = qs 3 k)
    {off : Fin 2 → ℕ} (hoff : off = ![bD c k, 0]) {inb : ∀ a, off a + S64x512.size a ≤ S512x512.size a}
    {off' : Fin 2 → ℕ} (hoff' : off' = ![bD c k, 0]) {inb' : ∀ a, off' a + S64x512.size a ≤ S512x512.size a}
    {offx : Fin 3 → ℕ} (hoffx : offx = ![0, bD c k, 512 * hy c]) {inbx : ∀ a, offx a + S1x64x512.size a ≤ S1x512x1024.size a}
    {w : (S64x512.Idx → Elt F .bf16) → S64x512.Idx → Elt F .bf16}
    (hw : ∀ v, w v = addf (shapeCast S64x512 (xRd m ρ c offx inbx) shapeCasts_S1x64x512_S64x512) v)
    {sp : Space} {s : Shape} {src : Memref sig .tc sp s .bf16} {g₁} {g₂}
    {hsc : (mV off inb : Memref sig (Dev.tc n : Thread nD τ).2.kind .vmem S64x512 .bf16).view.ref.isScScratch = false}
    {hsrc : (mV off inb).view.WordExact} {hdst : (mV off inb).view.WordExact}
    {hsem : DmaTarget.Typed .vmem (.dma q₂) (.remote (Dev.tc n : Thread nD τ) (mV off inb) (.dma q₁) hsc)}
    {hl : mM.view.LoadsAt (Rect.unit (s := S512x512) off' S64x512.size inb').toLoadRect}
    {hl' : oM.view.LoadsAt (Rect.unit (s := S512x512) off' S64x512.size inb').toLoadRect}
    {hx : (oM.access (Rect.unit (s := S512x512) off' S64x512.size inb')).Stores Finset.univ}
    {hm} {α : Type} {Q : α → sProp 𝕄} {k' : PUnit → Prog (TpuEff nD τ sig (Elt F) Λ₀ .tc) α} :
    iprop(records m ρ K ∗ levAts L lv ∗ chunkB c k ∗ owing c (oX c a))
      ⊢ iprop(((doneB m ρ c k ∗ owing c (oX c a')) -∗ wpc c (k' ⟨⟩) Q)
        -∗ wpc c (.op (.waitDma2 q₀ src (mV off inb) g₁ g₂) fun _ =>
          .op (.enqueueDma (mV off inb) (.remote (Dev.tc n : Thread nD τ) (mV off inb) (.dma q₁) hsc) (.dma q₂) hsrc hdst hsem) fun _ =>
          .op (.load mM (Rect.unit (s := S512x512) off' S64x512.size inb').toLoadRect hl) fun v =>
          .op (.load oM (Rect.unit (s := S512x512) off' S64x512.size inb').toLoadRect hl') fun _ =>
          .op (.store oM (Rect.unit (s := S512x512) off' S64x512.size inb') (w v) Finset.univ hx hm) k') Q) := by
  unfold chunkB doneB
  iintro ⟨#HR, #Hlev, ⟨Hat, Hc, Hm', Ht, Ht', Ho⟩, HO⟩ Hk
  iapply (step_wait m ρ K c 1 k h₀ (oX c a) (above_oX c a) (by rw [lvs_q]; decide) (src := src) (dst := mV off inb) rfl) $$ [Hat Hc HO]
  · isplitr; · iexact HR
    isplitr; · iexact Hlev
    isplitl [Hc]; · iexact Hc
    isplitl [HO]; · iexact HO
    iexact Hat
  iintro ⟨HO, Hat, Hm⟩
  iapply (step_relay m ρ K c k ha ha' hn h₁ h₂ hoff) $$ [Hm Hm' HO Ht Ht']
  · isplitr; · iexact HR
    isplitl [Hm]; · unfold qPay; iexact Hm
    isplitl [Hm']; · iexact Hm'
    isplitl [HO]; · iexact HO
    isplitl [Ht]; · iexact Ht
    iexact Ht'
  iintro ⟨Hc, HO, Hm⟩
  iapply (step_add m ρ c (bD c k) hoff' hoff' hoffx hw) $$ [Hm Ho]
  · isplitl [Hm]; · iexact Hm
    iexact Ho
  iintro ⟨Hm, Ho⟩
  iapply Hk
  isplitr [HO]
  · isplitl [Hat]; · iexact Hat
    isplitl [Hc]; · iexact Hc
    isplitl [Hm]; · iexact Hm
    iexact Ho
  iexact HO

/-- Before the last waits for chunk `k`: the two positions and the two credits. -/
def chunkE (c : Dev nD) (k : Fin 4) : sProp 𝕄 :=
  iprop(atPos ER (qCell c 0 k) 0 ∅ 0 ∗ atPos ER (qCell c 2 k) 0 ∅ 0 ∗ cred (tallyAt (qCell c 0 k) () N) ∗ cred (tallyAt (qCell c 2 k) () N))
/-- What a chunk's drained sends leave. -/
def doneE (c : Dev nD) (k : Fin 4) : sProp 𝕄 :=
  iprop(atPos ER (qCell c 0 k) (0 + 1) ∅ 0 ∗ atPos ER (qCell c 2 k) (0 + 1) ∅ 0 ∗ (∃ f, sPts c k f) ∗ mPts c (bD c k) fullShare.left (landed m ρ c))

/-- Receiving the other half's chunk `k` and adding it. -/
theorem seg_recv (c : Dev nD) (k : Fin 4) {q₀ : DmaSem sig} (h₀ : q₀ = qs 3 k)
    {off : Fin 2 → ℕ} {inb : ∀ a, off a + S64x512.size a ≤ S512x512.size a}
    {off' : Fin 2 → ℕ} (hoff' : off' = ![bR c k, 0]) {inb' : ∀ a, off' a + S64x512.size a ≤ S512x512.size a}
    {offx : Fin 3 → ℕ} (hoffx : offx = ![0, bR c k, 512 * hy c]) {inbx : ∀ a, offx a + S1x64x512.size a ≤ S1x512x1024.size a}
    {w : (S64x512.Idx → Elt F .bf16) → S64x512.Idx → Elt F .bf16}
    (hw : ∀ v, w v = addf (shapeCast S64x512 (xRd m ρ c offx inbx) shapeCasts_S1x64x512_S64x512) v)
    {sp : Space} {s : Shape} {src : Memref sig .tc sp s .bf16} {g₁} {g₂}
    {hl : mM.view.LoadsAt (Rect.unit (s := S512x512) off' S64x512.size inb').toLoadRect}
    {hl' : oM.view.LoadsAt (Rect.unit (s := S512x512) off' S64x512.size inb').toLoadRect}
    {hx : (oM.access (Rect.unit (s := S512x512) off' S64x512.size inb')).Stores Finset.univ}
    {hm} {α : Type} {Q : α → sProp 𝕄} {k' : PUnit → Prog (TpuEff nD τ sig (Elt F) Λ₀ .tc) α} :
    iprop(records m ρ K ∗ levAts L lv ∗ chunkC c k ∗ owing c 0)
      ⊢ iprop(((doneC m ρ c k ∗ owing c 0) -∗ wpc c (k' ⟨⟩) Q)
        -∗ wpc c (.op (.waitDma2 q₀ src (mV off inb) g₁ g₂) fun _ =>
          .op (.load mM (Rect.unit (s := S512x512) off' S64x512.size inb').toLoadRect hl) fun v =>
          .op (.load oM (Rect.unit (s := S512x512) off' S64x512.size inb').toLoadRect hl') fun _ =>
          .op (.store oM (Rect.unit (s := S512x512) off' S64x512.size inb') (w v) Finset.univ hx hm) k') Q) := by
  unfold chunkC doneC
  iintro ⟨#HR, #Hlev, ⟨Hat, Hc, Ho⟩, HO⟩ Hk
  iapply (step_wait m ρ K c 3 k h₀ 0 (above_zero _) (Nat.le_refl _) (src := src) (dst := mV off inb) rfl) $$ [Hat Hc HO]
  · isplitr; · iexact HR
    isplitr; · iexact Hlev
    isplitl [Hc]; · iexact Hc
    isplitl [HO]; · iexact HO
    iexact Hat
  iintro ⟨HO, Hat, Hm⟩
  iapply (step_add m ρ c (bR c k) hoff' hoff' hoffx hw) $$ [Hm Ho]
  · isplitl [Hm]; · unfold qPay; iexact Hm
    iexact Ho
  iintro ⟨Hm, Ho⟩
  iapply Hk
  isplitr [HO]
  · isplitl [Hat]; · iexact Hat
    isplitl [Hm]; · iexact Hm
    iexact Ho
  iexact HO

/-- The last two waits for chunk `k`: both of its copies have left. -/
theorem seg_drain (c : Dev nD) (k : Fin 4) {q₀ q₁ : DmaSem sig} (h₀ : q₀ = qs 0 k) (h₁ : q₁ = qs 2 k)
    {off : Fin 3 → ℕ} {inb : ∀ a, off a + S1x64x512.size a ≤ S4x64x512.size a}
    {off' : Fin 2 → ℕ} {inb' : ∀ a, off' a + S64x512.size a ≤ S512x512.size a}
    {sp sp' : Space} {s s' : Shape} {src : Memref sig .tc sp s .bf16} {src' : Memref sig .tc sp' s' .bf16} {g₁} {g₂} {g₃} {g₄}
    {α : Type} {Q : α → sProp 𝕄} {k' : PUnit → Prog (TpuEff nD τ sig (Elt F) Λ₀ .tc) α} :
    iprop(records m ρ K ∗ levAts L lv ∗ chunkE c k ∗ owing c 0)
      ⊢ iprop(((doneE m ρ c k ∗ owing c 0) -∗ wpc c (k' ⟨⟩) Q)
        -∗ wpc c (.op (.waitDma2 q₀ src (sV off inb) g₁ g₂) fun _ => .op (.waitDma2 q₁ src' (mV off' inb') g₃ g₄) k') Q) := by
  unfold chunkE doneE
  iintro ⟨#HR, #Hlev, ⟨Hat, Hat', Hc, Hc'⟩, HO⟩ Hk
  iapply (step_wait m ρ K c 0 k h₀ 0 (above_zero _) (Nat.le_refl _) (src := src) (dst := sV off inb) rfl) $$ [Hat Hc HO]
  · isplitr; · iexact HR
    isplitr; · iexact Hlev
    isplitl [Hc]; · iexact Hc
    isplitl [HO]; · iexact HO
    iexact Hat
  iintro ⟨HO, Hat, Hs⟩
  iapply (step_wait m ρ K c 2 k h₁ 0 (above_zero _) (Nat.le_refl _) (src := src') (dst := mV off' inb') rfl) $$ [Hat' Hc' HO]
  · isplitr; · iexact HR
    isplitr; · iexact Hlev
    isplitl [Hc']; · iexact Hc'
    isplitl [HO]; · iexact HO
    iexact Hat'
  iintro ⟨HO, Hat', Hm⟩
  iapply Hk
  isplitr [HO]
  · isplitl [Hat]; · iexact Hat
    isplitl [Hat']; · iexact Hat'
    isplitl [Hs]; · unfold qPay; iexact Hs
    unfold qPay; iexact Hm
  iexact HO

/-! ## The parts -/

/-- The first part: the signals to both partners, the wait for theirs, and the load of the first chunk. -/
theorem part1_run (c : Dev nD) (Kt : _ → sProp 𝕄) :
    iprop(records m ρ K ∗ levAts L lv ∗ xPts m ρ c ∗ owing c (O₀ c)
        ∗ dutyTok ER (barCell (yp c)) 0 true ∗ dutyTok ER (barCell (xp c)) 0 false
        ∗ (bigSep Finset.univ fun k : Fin 4 => iprop(∃ f, mPts c (bD c k) fullShare f))
        ∗ (bigSep Finset.univ fun k : Fin 4 => iprop(∃ f, mPts c (bR c k) fullShare f))
        ∗ cred (tallyAt (barCell c) () 2) ∗ atPos ER (barCell c) 0 ∅ 0
        ∗ (∀ v2 v5 v8 v9 v10 v24, (xPts m ρ c ∗ owing c (O₂ c 0) ∗ atPos ER (barCell c) (0 + 1) ∅ 0 ∗ barPay c true ∗ barPay c false)
          -∗ Kt ⟨c, v2, v5, v8, v9, v10, v24, xRd m ρ c (k0_off1 c 0#32) (k0_off1_inb c 0)⟩))
      ⊢ wpc c (k0_part1 (F := F) xM (Memref.isWhole_whole _) oM (Memref.isWhole_whole _) sM (Memref.isWhole_whole _) mM (Memref.isWhole_whole _)
          cc0_scratch2 cc0_scratch3 cc0_scratch4 cc0_scratch5) Kt := by
  rw [k0_part1_eq_skeleton]; unfold k0_part1_skel
  simp only [semSignalWord, semWaitWord, Prog.lift, Prog.bind_op, Prog.bind_ret, Prog.pure_eq_ret, wp_deviceId]
  iintro ⟨#HR, #Hlev, Hx, HO, Hty, Htx, HmD, HmR, Hc, Hat, Hk⟩
  iapply (step_signal m ρ K c (yp c) true (Fin.ext (k0_dev1_eq c)) (yp_yp c) rfl (O₁ c) (by decide)) $$ [HO Hty HmD]
  · isplitr; · iexact HR
    isplitl [HO]; · iexact HO
    isplitl [Hty]; · iexact Hty
    simp only [bD_yp]; iexact HmD
  iintro HO
  iapply (step_signal m ρ K c (xp c) false (Fin.ext (k0_dev2_eq c)) (xp_xp c) rfl (O₂ c 0) (by decide)) $$ [HO Htx HmR]
  · isplitr; · iexact HR
    isplitl [HO]; · iexact HO
    isplitl [Htx]; · iexact Htx
    simp only [bD_xp]; iexact HmR
  iintro HO
  iapply (step_barrier m ρ K c rfl (O₂ c 0) (above_O₂ c 0) (by decide)) $$ [HO Hc Hat]
  · isplitr; · iexact HR
    isplitr; · iexact Hlev
    isplitl [Hc]; · iexact Hc
    isplitl [HO]; · iexact HO
    iexact Hat
  iintro ⟨HO, Hat, Hy, Hx'⟩
  iapply (step_x m ρ c) $$ Hx
  iintro Hx
  iapply (wpc_ret c)
  iapply Hk
  isplitl [Hx]; · iexact Hx
  isplitl [HO]; · iexact HO
  isplitl [Hat]; · iexact Hat
  isplitl [Hy]; · iexact Hy
  iexact Hx'

/-- The second part: the first chunk stored and sent, and the second chunk loaded and stored. -/
theorem part2_run (c : Dev nD) (v2 v5 v8 v9 v24 : BitVec 32) (Kt : _ → sProp 𝕄) :
    iprop(records m ρ K ∗ xPts m ρ c ∗ owing c (O₂ c 0) ∗ chunkA c 0 ∗ (∃ f, sPts c 1 f)
        ∗ (∀ a, (xPts m ρ c ∗ owing c (O₂ c 1) ∗ cred (tallyAt (qCell c 0 0) () N) ∗ ready m ρ c 1) -∗ Kt a))
      ⊢ wpc c (k0_part2 (F := F) xM (Memref.isWhole_whole _) oM (Memref.isWhole_whole _) sM (Memref.isWhole_whole _) mM (Memref.isWhole_whole _)
          cc0_scratch2 cc0_scratch3 cc0_scratch4 cc0_scratch5 c v2 v5 v8 v9 v24 (xRd m ρ c (k0_off1 c 0#32) (k0_off1_inb c 0))) Kt := by
  rw [k0_part2_eq_skeleton]; unfold k0_part2_skel
  simp only [Prog.lift, Prog.bind_op, Prog.bind_ret, Prog.pure_eq_ret]
  unfold chunkA
  iintro ⟨#HR, Hx, HO, ⟨Hs, Hm, Ht, Ht'⟩, Hs1, Hk⟩
  iapply (step_fill m ρ c 0 rfl (o1 c 0 0#32 rfl) (inbx := k0_off1_inb c 0) rfl) $$ Hs
  iintro Hs
  iapply (step_send m ρ K c 0 rfl rfl (Fin.ext (k0_dev3_eq c)) (show ps cc0_scratch2 ![0] inb_S4_S1_0 = qs 0 0 from rfl)
    (show ps cc0_scratch3 ![0] inb_S4_S1_0 = qs 1 0 from rfl) rfl (o2 c 0 0#32 rfl)) $$ [Hs Hm HO Ht Ht']
  · isplitr; · iexact HR
    isplitl [Hs]; · iexact Hs
    isplitl [Hm]; · iexact Hm
    isplitl [HO]; · iexact HO
    isplitl [Ht]; · iexact Ht
    iexact Ht'
  iintro ⟨Hc, HO⟩
  iapply (step_x m ρ c) $$ Hx
  iintro Hx
  iapply (step_fill m ρ c 1 rfl (o1 c 1 64#32 rfl) (inbx := k0_off1_inb c 1) rfl) $$ Hs1
  iintro Hs1
  iapply (wpc_ret c)
  iapply Hk
  isplitl [Hx]; · iexact Hx
  isplitl [HO]; · iexact HO
  isplitl [Hc]; · iexact Hc
  iexact Hs1

/-- The third part: chunk 1 leaves, chunk 2 is filled and leaves. -/
theorem part3_run (c : Dev nD) (v2 v5 v8 v9 v24 v61 : BitVec 32) (Kt : _ → sProp 𝕄) :
    iprop(records m ρ K ∗ xPts m ρ c ∗ owing c (O₂ c 1) ∗ ready m ρ c 1 ∗ (∃ f, mPts (yp c) (bD c 1) fullShare f) ∗ dutyTok ER (qCell c 0 1) 0 false
        ∗ dutyTok ER (qCell (yp c) 1 1) 0 false ∗ chunkA c 2
        ∗ (∀ a b, (xPts m ρ c ∗ owing c (O₂ c 3) ∗ cred (tallyAt (qCell c 0 1) () N) ∗ cred (tallyAt (qCell c 0 2) () N)) -∗ Kt ⟨a, b⟩))
      ⊢ wpc c (k0_part3 (F := F) xM (Memref.isWhole_whole _) oM (Memref.isWhole_whole _) sM (Memref.isWhole_whole _) mM (Memref.isWhole_whole _)
          cc0_scratch2 cc0_scratch3 cc0_scratch4 cc0_scratch5 c v2 v5 v8 v9 v24 v61) Kt := by
  rw [k0_part3_eq_skeleton]; unfold k0_part3_skel
  simp only [Prog.lift, Prog.bind_op, Prog.bind_ret, Prog.pure_eq_ret]
  unfold chunkA
  iintro ⟨#HR, Hx, HO, Hs, Hm, Ht, Ht', ⟨Hs2, Hm2, Ht2, Ht2'⟩, Hk⟩
  iapply (step_send m ρ K c 1 rfl rfl (Fin.ext (k0_dev4_eq c)) (show ps cc0_scratch2 ![1] inb_S4_S1_1 = qs 0 1 from rfl)
    (show ps cc0_scratch3 ![1] inb_S4_S1_1 = qs 1 1 from rfl) rfl (o2 c 1 64#32 rfl)) $$ [Hs Hm HO Ht Ht']
  · isplitr; · iexact HR
    isplitl [Hs]; · iexact Hs
    isplitl [Hm]; · iexact Hm
    isplitl [HO]; · iexact HO
    isplitl [Ht]; · iexact Ht
    iexact Ht'
  iintro ⟨Hc, HO⟩
  iapply (step_x m ρ c) $$ Hx
  iintro Hx
  iapply (step_fill m ρ c 2 rfl (o1 c 2 128#32 rfl) (inbx := k0_off1_inb c 2) rfl) $$ Hs2
  iintro Hs2
  iapply (step_send m ρ K c 2 rfl rfl (Fin.ext (k0_dev5_eq c)) (show ps cc0_scratch2 ![2] inb_S4_S1_2 = qs 0 2 from rfl)
    (show ps cc0_scratch3 ![2] inb_S4_S1_2 = qs 1 2 from rfl) rfl (o2 c 2 128#32 rfl)) $$ [Hs2 Hm2 HO Ht2 Ht2']
  · isplitr; · iexact HR
    isplitl [Hs2]; · iexact Hs2
    isplitl [Hm2]; · iexact Hm2
    isplitl [HO]; · iexact HO
    isplitl [Ht2]; · iexact Ht2
    iexact Ht2'
  iintro ⟨Hc', HO⟩
  iapply (wpc_ret c)
  iapply Hk
  isplitl [Hx]; · iexact Hx
  isplitl [HO]; · iexact HO
  isplitl [Hc]; · iexact Hc
  iexact Hc'

/-- The fourth part: chunk 3 is filled and leaves; the first piece of the device's own column block is read. -/
theorem part4_run (c : Dev nD) (v2 v5 v8 v9 v24 v94 v95 : BitVec 32) (Kt : _ → sProp 𝕄) :
    iprop(records m ρ K ∗ xPts m ρ c ∗ owing c (O₂ c 3) ∗ chunkA c 3
        ∗ (∀ a, (xPts m ρ c ∗ owing c (oX c 0) ∗ cred (tallyAt (qCell c 0 3) () N)) -∗ Kt ⟨a, k0_pay5 (xRd m ρ c (k0_off3 c 0#32) (k0_off3_inb c 0))⟩))
      ⊢ wpc c (k0_part4 (F := F) xM (Memref.isWhole_whole _) oM (Memref.isWhole_whole _) sM (Memref.isWhole_whole _) mM (Memref.isWhole_whole _)
          cc0_scratch2 cc0_scratch3 cc0_scratch4 cc0_scratch5 c v2 v5 v8 v9 v24 v94 v95) Kt := by
  rw [k0_part4_eq_skeleton]; unfold k0_part4_skel
  simp only [Prog.lift, Prog.bind_op, Prog.bind_ret, Prog.pure_eq_ret]
  unfold chunkA
  iintro ⟨#HR, Hx, HO, ⟨Hs, Hm, Ht, Ht'⟩, Hk⟩
  iapply (step_x m ρ c) $$ Hx
  iintro Hx
  iapply (step_fill m ρ c 3 rfl (o1 c 3 192#32 rfl) (inbx := k0_off1_inb c 3) rfl) $$ Hs
  iintro Hs
  iapply (step_send m ρ K c 3 rfl rfl (Fin.ext (k0_dev6_eq c)) (show ps cc0_scratch2 ![3] inb_S4_S1_3 = qs 0 3 from rfl)
    (show ps cc0_scratch3 ![3] inb_S4_S1_3 = qs 1 3 from rfl) rfl (o2 c 3 192#32 rfl)) $$ [Hs Hm HO Ht Ht']
  · isplitr; · iexact HR
    isplitl [Hs]; · iexact Hs
    isplitl [Hm]; · iexact Hm
    isplitl [HO]; · iexact HO
    isplitl [Ht]; · iexact Ht
    iexact Ht'
  iintro ⟨Hc, HO⟩
  iapply (step_x m ρ c) $$ Hx
  iintro Hx
  iapply (wpc_ret c)
  iapply Hk
  isplitl [Hx]; · iexact Hx
  isplitl [HO]; · rw [← O₂_four]; iexact HO
  iexact Hc

/-- Chunk 0 is received, handed on and added; the next piece of the device's own columns is read. -/
theorem part5_run (c : Dev nD) (v2 v5 v8 v9 v10 v24 v : BitVec 32) (Kt : _ → sProp 𝕄) :
    iprop(records m ρ K ∗ levAts L lv ∗ xPts m ρ c ∗ owing c (oX c 0) ∗ chunkB c 0
        ∗ (∀ a, (xPts m ρ c ∗ owing c (oX c 1) ∗ doneB m ρ c 0) -∗ Kt ⟨a, k0_pay7 (xRd m ρ c (k0_off3 c 64#32) (k0_off3_inb c 1))⟩))
      ⊢ wpc c (k0_part5 (F := F) xM (Memref.isWhole_whole _) oM (Memref.isWhole_whole _) sM (Memref.isWhole_whole _) mM (Memref.isWhole_whole _)
          cc0_scratch2 cc0_scratch3 cc0_scratch4 cc0_scratch5 c v2 v5 v8 v9 v10 v24 v (k0_pay5 (xRd m ρ c (k0_off3 c 0#32) (k0_off3_inb c 0)))) Kt := by
  rw [k0_part5_eq_skeleton]; unfold k0_part5_skel
  simp only [Prog.lift, Prog.bind_op, Prog.bind_ret, Prog.pure_eq_ret]
  iintro ⟨#HR, #Hlev, Hx, HO, HB, Hk⟩
  iapply (seg_relay m ρ K c 0 (a := 0) (a' := 1) rfl rfl (Fin.ext (k0_dev7_eq c)) (show ps cc0_scratch3 ![0] inb_S4_S1_0 = qs 1 0 from rfl)
    (show ps cc0_scratch4 ![0] inb_S4_S1_0 = qs 2 0 from rfl) (show ps cc0_scratch5 ![0] inb_S4_S1_0 = qs 3 0 from rfl)
    (o2 c 0 0#32 rfl) (o4 c 0 0#32 rfl) (o3 c 0 0#32 rfl) (inbx := k0_off3_inb c 0) (w := k0_pay6 (k0_pay5 (xRd m ρ c (k0_off3 c 0#32) (k0_off3_inb c 0)))) (fun _ => rfl)) $$ [HB HO]
  · isplitr; · iexact HR
    isplitr; · iexact Hlev
    isplitl [HB]; · iexact HB
    iexact HO
  iintro ⟨HB, HO⟩
  iapply (step_x m ρ c) $$ Hx
  iintro Hx
  iapply (wpc_ret c)
  iapply Hk
  isplitl [Hx]; · iexact Hx
  isplitl [HO]; · iexact HO
  iexact HB

/-- Chunk 1 is received, handed on and added; the next piece of the device's own columns is read. -/
theorem part6_run (c : Dev nD) (v2 v5 v8 v9 v10 v24 v : BitVec 32) (Kt : _ → sProp 𝕄) :
    iprop(records m ρ K ∗ levAts L lv ∗ xPts m ρ c ∗ owing c (oX c 1) ∗ chunkB c 1
        ∗ (∀ a, (xPts m ρ c ∗ owing c (oX c 2) ∗ doneB m ρ c 1) -∗ Kt ⟨a, k0_pay9 (xRd m ρ c (k0_off3 c 128#32) (k0_off3_inb c 2))⟩))
      ⊢ wpc c (k0_part6 (F := F) xM (Memref.isWhole_whole _) oM (Memref.isWhole_whole _) sM (Memref.isWhole_whole _) mM (Memref.isWhole_whole _)
          cc0_scratch2 cc0_scratch3 cc0_scratch4 cc0_scratch5 c v2 v5 v8 v9 v10 v24 v (k0_pay7 (xRd m ρ c (k0_off3 c 64#32) (k0_off3_inb c 1)))) Kt := by
  rw [k0_part6_eq_skeleton]; unfold k0_part6_skel
  simp only [Prog.lift, Prog.bind_op, Prog.bind_ret, Prog.pure_eq_ret]
  iintro ⟨#HR, #Hlev, Hx, HO, HB, Hk⟩
  iapply (seg_relay m ρ K c 1 (a := 1) (a' := 2) rfl rfl (Fin.ext (k0_dev8_eq c)) (show ps cc0_scratch3 ![1] inb_S4_S1_1 = qs 1 1 from rfl)
    (show ps cc0_scratch4 ![1] inb_S4_S1_1 = qs 2 1 from rfl) (show ps cc0_scratch5 ![1] inb_S4_S1_1 = qs 3 1 from rfl)
    (o2 c 1 64#32 rfl) (o4 c 1 64#32 rfl) (o3 c 1 64#32 rfl) (inbx := k0_off3_inb c 1) (w := k0_pay8 (k0_pay7 (xRd m ρ c (k0_off3 c 64#32) (k0_off3_inb c 1)))) (fun _ => rfl)) $$ [HB HO]
  · isplitr; · iexact HR
    isplitr; · iexact Hlev
    isplitl [HB]; · iexact HB
    iexact HO
  iintro ⟨HB, HO⟩
  iapply (step_x m ρ c) $$ Hx
  iintro Hx
  iapply (wpc_ret c)
  iapply Hk
  isplitl [Hx]; · iexact Hx
  isplitl [HO]; · iexact HO
  iexact HB

/-- Chunk 2 is received, handed on and added; the next piece of the device's own columns is read. -/
theorem part7_run (c : Dev nD) (v2 v5 v8 v9 v10 v24 v : BitVec 32) (Kt : _ → sProp 𝕄) :
    iprop(records m ρ K ∗ levAts L lv ∗ xPts m ρ c ∗ owing c (oX c 2) ∗ chunkB c 2
        ∗ (∀ a, (xPts m ρ c ∗ owing c (oX c 3) ∗ doneB m ρ c 2) -∗ Kt ⟨a, k0_pay11 (xRd m ρ c (k0_off3 c 192#32) (k0_off3_inb c 3))⟩))
      ⊢ wpc c (k0_part7 (F := F) xM (Memref.isWhole_whole _) oM (Memref.isWhole_whole _) sM (Memref.isWhole_whole _) mM (Memref.isWhole_whole _)
          cc0_scratch2 cc0_scratch3 cc0_scratch4 cc0_scratch5 c v2 v5 v8 v9 v10 v24 v (k0_pay9 (xRd m ρ c (k0_off3 c 128#32) (k0_off3_inb c 2)))) Kt := by
  rw [k0_part7_eq_skeleton]; unfold k0_part7_skel
  simp only [Prog.lift, Prog.bind_op, Prog.bind_ret, Prog.pure_eq_ret]
  iintro ⟨#HR, #Hlev, Hx, HO, HB, Hk⟩
  iapply (seg_relay m ρ K c 2 (a := 2) (a' := 3) rfl rfl (Fin.ext (k0_dev9_eq c)) (show ps cc0_scratch3 ![2] inb_S4_S1_2 = qs 1 2 from rfl)
    (show ps cc0_scratch4 ![2] inb_S4_S1_2 = qs 2 2 from rfl) (show ps cc0_scratch5 ![2] inb_S4_S1_2 = qs 3 2 from rfl)
    (o2 c 2 128#32 rfl) (o4 c 2 128#32 rfl) (o3 c 2 128#32 rfl) (inbx := k0_off3_inb c 2) (w := k0_pay10 (k0_pay9 (xRd m ρ c (k0_off3 c 128#32) (k0_off3_inb c 2)))) (fun _ => rfl)) $$ [HB HO]
  · isplitr; · iexact HR
    isplitr; · iexact Hlev
    isplitl [HB]; · iexact HB
    iexact HO
  iintro ⟨HB, HO⟩
  iapply (step_x m ρ c) $$ Hx
  iintro Hx
  iapply (wpc_ret c)
  iapply Hk
  isplitl [Hx]; · iexact Hx
  isplitl [HO]; · iexact HO
  iexact HB

/-- Chunk 3 is received, handed on and added; the next piece of the device's own columns is read. -/
theorem part8_run (c : Dev nD) (v2 v5 v8 v10 v : BitVec 32) (Kt : _ → sProp 𝕄) :
    iprop(records m ρ K ∗ levAts L lv ∗ xPts m ρ c ∗ owing c (oX c 3) ∗ chunkB c 3
        ∗ (∀ a a' b, (xPts m ρ c ∗ owing c 0 ∗ doneB m ρ c 3) -∗ Kt ⟨a, a', k0_pay13 (xRd m ρ c (k0_off5 c 0#32) (k0_off5_inb c 0)), b⟩))
      ⊢ wpc c (k0_part8 (F := F) xM (Memref.isWhole_whole _) oM (Memref.isWhole_whole _) sM (Memref.isWhole_whole _) mM (Memref.isWhole_whole _)
          cc0_scratch2 cc0_scratch3 cc0_scratch4 cc0_scratch5 c v2 v5 v8 v10 v (k0_pay11 (xRd m ρ c (k0_off3 c 192#32) (k0_off3_inb c 3)))) Kt := by
  rw [k0_part8_eq_skeleton]; unfold k0_part8_skel
  simp only [Prog.lift, Prog.bind_op, Prog.bind_ret, Prog.pure_eq_ret]
  iintro ⟨#HR, #Hlev, Hx, HO, HB, Hk⟩
  iapply (seg_relay m ρ K c 3 (a := 3) (a' := 4) rfl rfl (Fin.ext (k0_dev10_eq c)) (show ps cc0_scratch3 ![3] inb_S4_S1_3 = qs 1 3 from rfl)
    (show ps cc0_scratch4 ![3] inb_S4_S1_3 = qs 2 3 from rfl) (show ps cc0_scratch5 ![3] inb_S4_S1_3 = qs 3 3 from rfl)
    (o2 c 3 192#32 rfl) (o4 c 3 192#32 rfl) (o3 c 3 192#32 rfl) (inbx := k0_off3_inb c 3) (w := k0_pay12 (k0_pay11 (xRd m ρ c (k0_off3 c 192#32) (k0_off3_inb c 3)))) (fun _ => rfl)) $$ [HB HO]
  · isplitr; · iexact HR
    isplitr; · iexact Hlev
    isplitl [HB]; · iexact HB
    iexact HO
  iintro ⟨HB, HO⟩
  iapply (step_x m ρ c) $$ Hx
  iintro Hx
  iapply (wpc_ret c)
  iapply Hk
  isplitl [Hx]; · iexact Hx
  isplitl [HO]; · rw [← oX_four]; iexact HO
  iexact HB

/-- The other half's chunks 0 and 1 are received and added. -/
theorem part9_run (c : Dev nD) (v5 v8 v10 v254 v255 v264 : BitVec 32) (Kt : _ → sProp 𝕄) :
    iprop(records m ρ K ∗ levAts L lv ∗ xPts m ρ c ∗ owing c 0 ∗ chunkC c 0 ∗ chunkC c 1
        ∗ (∀ a b, (xPts m ρ c ∗ owing c 0 ∗ doneC m ρ c 0 ∗ doneC m ρ c 1) -∗ Kt ⟨a, b⟩))
      ⊢ wpc c (k0_part9 (F := F) xM (Memref.isWhole_whole _) oM (Memref.isWhole_whole _) sM (Memref.isWhole_whole _) mM (Memref.isWhole_whole _)
          cc0_scratch2 cc0_scratch3 cc0_scratch4 cc0_scratch5 c v5 v8 v10 v254 v255 (k0_pay13 (xRd m ρ c (k0_off5 c 0#32) (k0_off5_inb c 0))) v264) Kt := by
  rw [k0_part9_eq_skeleton]; unfold k0_part9_skel
  simp only [Prog.lift, Prog.bind_op, Prog.bind_ret, Prog.pure_eq_ret]
  iintro ⟨#HR, #Hlev, Hx, HO, HC, HC', Hk⟩
  iapply (seg_recv m ρ K c 0 (show ps cc0_scratch5 ![0] inb_S4_S1_0 = qs 3 0 from rfl)
    (o7 c 0 0#32 rfl) (o5 c 0 0#32 rfl) (inbx := k0_off5_inb c 0) (w := k0_pay14 (k0_pay13 (xRd m ρ c (k0_off5 c 0#32) (k0_off5_inb c 0)))) (fun _ => rfl)) $$ [HC HO]
  · isplitr; · iexact HR
    isplitr; · iexact Hlev
    isplitl [HC]; · iexact HC
    iexact HO
  iintro ⟨HC, HO⟩
  iapply (step_x m ρ c) $$ Hx
  iintro Hx
  iapply (seg_recv m ρ K c 1 (show ps cc0_scratch5 ![1] inb_S4_S1_1 = qs 3 1 from rfl)
    (o7 c 1 64#32 rfl) (o5 c 1 64#32 rfl) (inbx := k0_off5_inb c 1) (w := k0_pay15 (xRd m ρ c (k0_off5 c 64#32) (k0_off5_inb c 1))) (fun _ => rfl)) $$ [HC' HO]
  · isplitr; · iexact HR
    isplitr; · iexact Hlev
    isplitl [HC']; · iexact HC'
    iexact HO
  iintro ⟨HC', HO⟩
  iapply (wpc_ret c)
  iapply Hk
  isplitl [Hx]; · iexact Hx
  isplitl [HO]; · iexact HO
  isplitl [HC]; · iexact HC
  iexact HC'

/-- The other half's chunk 2 is received and added, and chunk 3 is received. -/
theorem part10_run (c : Dev nD) (v5 v8 v10 v254 v297 v298 : BitVec 32) (Kt : _ → sProp 𝕄) :
    iprop(records m ρ K ∗ levAts L lv ∗ xPts m ρ c ∗ owing c 0 ∗ chunkC c 2 ∗ atPos ER (qCell c 3 3) 0 ∅ 0 ∗ cred (tallyAt (qCell c 3 3) () N)
        ∗ (∀ a, (xPts m ρ c ∗ owing c 0 ∗ doneC m ρ c 2 ∗ atPos ER (qCell c 3 3) (0 + 1) ∅ 0 ∗ mPts c (bR c 3) fullShare (landed m ρ c)) -∗ Kt ⟨a, k0_pay17 (xRd m ρ c (k0_off5 c 192#32) (k0_off5_inb c 3))⟩))
      ⊢ wpc c (k0_part10 (F := F) xM (Memref.isWhole_whole _) oM (Memref.isWhole_whole _) sM (Memref.isWhole_whole _) mM (Memref.isWhole_whole _)
          cc0_scratch2 cc0_scratch3 cc0_scratch4 cc0_scratch5 c v5 v8 v10 v254 v297 v298) Kt := by
  rw [k0_part10_eq_skeleton]; unfold k0_part10_skel
  simp only [Prog.lift, Prog.bind_op, Prog.bind_ret, Prog.pure_eq_ret]
  iintro ⟨#HR, #Hlev, Hx, HO, HC, Hat, Hc, Hk⟩
  iapply (step_x m ρ c) $$ Hx
  iintro Hx
  iapply (seg_recv m ρ K c 2 (show ps cc0_scratch5 ![2] inb_S4_S1_2 = qs 3 2 from rfl)
    (o7 c 2 128#32 rfl) (o5 c 2 128#32 rfl) (inbx := k0_off5_inb c 2) (w := k0_pay16 (xRd m ρ c (k0_off5 c 128#32) (k0_off5_inb c 2))) (fun _ => rfl)) $$ [HC HO]
  · isplitr; · iexact HR
    isplitr; · iexact Hlev
    isplitl [HC]; · iexact HC
    iexact HO
  iintro ⟨HC, HO⟩
  iapply (step_x m ρ c) $$ Hx
  iintro Hx
  iapply (step_wait m ρ K c 3 3 (show ps cc0_scratch5 ![3] inb_S4_S1_3 = qs 3 3 from rfl) 0 (above_zero _) (Nat.le_refl _)
    (src := mV (k0_off6 c 192#32) (k0_off6_inb c 3)) (dst := mV (k0_off6 c 192#32) (k0_off6_inb c 3)) rfl) $$ [Hat Hc HO]
  · isplitr; · iexact HR
    isplitr; · iexact Hlev
    isplitl [Hc]; · iexact Hc
    isplitl [HO]; · iexact HO
    iexact Hat
  iintro ⟨HO, Hat, Hm⟩
  iapply (wpc_ret c)
  iapply Hk
  isplitl [Hx]; · iexact Hx
  isplitl [HO]; · iexact HO
  isplitl [HC]; · iexact HC
  isplitl [Hat]; · iexact Hat
  unfold qPay; iexact Hm

/-- Chunk 3 of the other half is added, and the copies of chunks 0 and 1 have left. -/
theorem part11_run (c : Dev nD) (v318 : BitVec 32) (Kt : _ → sProp 𝕄) :
    iprop(records m ρ K ∗ levAts L lv ∗ owing c 0 ∗ atPos ER (qCell c 3 3) (0 + 1) ∅ 0 ∗ mPts c (bR c 3) fullShare (landed m ρ c)
        ∗ (∃ f, oPts c (bR c 3) f) ∗ chunkE c 0 ∗ chunkE c 1
        ∗ (∀ a, (owing c 0 ∗ doneC m ρ c 3 ∗ doneE m ρ c 0 ∗ doneE m ρ c 1) -∗ Kt a))
      ⊢ wpc c (k0_part11 (F := F) xM (Memref.isWhole_whole _) oM (Memref.isWhole_whole _) sM (Memref.isWhole_whole _) mM (Memref.isWhole_whole _)
          cc0_scratch2 cc0_scratch3 cc0_scratch4 cc0_scratch5 c v318 (k0_pay17 (xRd m ρ c (k0_off5 c 192#32) (k0_off5_inb c 3)))) Kt := by
  rw [k0_part11_eq_skeleton]; unfold k0_part11_skel
  simp only [Prog.lift, Prog.bind_op, Prog.bind_ret, Prog.pure_eq_ret]
  unfold doneC
  iintro ⟨#HR, #Hlev, HO, Hat, Hm, Ho, HE, HE', Hk⟩
  iapply (step_add m ρ c (bR c 3) (o7 c 3 192#32 rfl) (o7 c 3 192#32 rfl) (o5 c 3 192#32 rfl) (inbx := k0_off5_inb c 3)
    (w := k0_pay18 (k0_pay17 (xRd m ρ c (k0_off5 c 192#32) (k0_off5_inb c 3)))) (fun _ => rfl)) $$ [Hm Ho]
  · isplitl [Hm]; · iexact Hm
    iexact Ho
  iintro ⟨Hm, Ho⟩
  iapply (seg_drain m ρ K c 0 (show ps cc0_scratch2 ![0] inb_S4_S1_0 = qs 0 0 from rfl) (show ps cc0_scratch4 ![0] inb_S4_S1_0 = qs 2 0 from rfl)
    (off := ![0, 0, 0]) (inb := inb_S4x64x512_S1x64x512_0_0_0) (off' := k0_off2 c 0#32) (inb' := k0_off2_inb c 0)) $$ [HE HO]
  · isplitr; · iexact HR
    isplitr; · iexact Hlev
    isplitl [HE]; · iexact HE
    iexact HO
  iintro ⟨HE, HO⟩
  iapply (seg_drain m ρ K c 1 (show ps cc0_scratch2 ![1] inb_S4_S1_1 = qs 0 1 from rfl) (show ps cc0_scratch4 ![1] inb_S4_S1_1 = qs 2 1 from rfl)
    (off := ![1, 0, 0]) (inb := inb_S4x64x512_S1x64x512_1_0_0) (off' := k0_off2 c 64#32) (inb' := k0_off2_inb c 1)) $$ [HE' HO]
  · isplitr; · iexact HR
    isplitr; · iexact Hlev
    isplitl [HE']; · iexact HE'
    iexact HO
  iintro ⟨HE', HO⟩
  iapply (wpc_ret c)
  iapply Hk
  isplitl [HO]; · iexact HO
  isplitl [Hat Hm Ho]
  · isplitl [Hat]; · iexact Hat
    isplitl [Hm]; · iexact Hm
    iexact Ho
  isplitl [HE]; · iexact HE
  iexact HE'

end Cert.RelayProof

end
-- ==== Proof.Run.lean ====
/-
The kernel's body on one device: its parts one after another, from what every chunk needs to what every chunk leaves.
-/
module

public import proofs.«01_k».proof.Proof.Parts

@[expose] public section

set_option maxRecDepth 16384

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- Four things, one by one. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- Running one program after another. -/
theorem wpc_bind (c : Dev nD) {α β : Type} (p : Prog (TpuEff nD τ sig (Elt F) Λ₀ .tc) α) (k' : α → Prog (TpuEff nD τ sig (Elt F) Λ₀ .tc) β)
    (Q : β → sProp 𝕄) : wpc c p (fun a => wpc c (k' a) Q) ⊢ wpc c (p >>= k') Q := by
  unfold wpc; exact Entails.of_eq (wp_bind _ _ _ _ _ _).symm

/-- The rows the barrier's wait brings, from the `y` partner and from the `x` partner, chunk by chunk. -/
theorem bar_y (c : Dev nD) : (barPay c true : sProp 𝕄) ⊢ iprop((∃ f, mPts (yp c) (bD c 0) fullShare f) ∗ (∃ f, mPts (yp c) (bD c 1) fullShare f)
    ∗ (∃ f, mPts (yp c) (bD c 2) fullShare f) ∗ ∃ f, mPts (yp c) (bD c 3) fullShare f) := by
  unfold barPay; rw [bigSep_four]; exact Entails.of_eq rfl
/-- What the `x` partner's signal brings: the rows of its receive buffer that this device relays into. -/
theorem bar_x (c : Dev nD) : (barPay c false : sProp 𝕄) ⊢ iprop((∃ f, mPts (xp c) (bD c 0) fullShare f) ∗ (∃ f, mPts (xp c) (bD c 1) fullShare f)
    ∗ (∃ f, mPts (xp c) (bD c 2) fullShare f) ∗ ∃ f, mPts (xp c) (bD c 3) fullShare f) := by
  unfold barPay; rw [bigSep_four]; exact Entails.of_eq rfl

/-- All that chunk `k` needs, on the device that sends it and receives it. -/
def needs (c : Dev nD) (k : Fin 4) : sProp 𝕄 :=
  iprop((∃ f, sPts c k f) ∗ dutyTok ER (qCell c 0 k) 0 false ∗ dutyTok ER (qCell (yp c) 1 k) 0 false
    ∗ atPos ER (qCell c 1 k) 0 ∅ 0 ∗ cred (tallyAt (qCell c 1 k) () N) ∗ dutyTok ER (qCell c 2 k) 0 false ∗ dutyTok ER (qCell (xp c) 3 k) 0 false
    ∗ (∃ f, oPts c (bD c k) f) ∗ chunkC c k ∗ atPos ER (qCell c 0 k) 0 ∅ 0 ∗ atPos ER (qCell c 2 k) 0 ∅ 0)
/-- All that chunk `k` leaves. -/
def leaves (c : Dev nD) (k : Fin 4) : sProp 𝕄 :=
  iprop(atPos ER (qCell c 1 k) (0 + 1) ∅ 0 ∗ mPts c (bD c k) fullShare.right (landed m ρ c) ∗ oPts c (bD c k) (outAt m ρ c)
    ∗ doneC m ρ c k ∗ doneE m ρ c k)

set_option maxHeartbeats 1600000 in
/-- The body, part by part. -/
theorem body_run (c : Dev nD) (Kt : PUnit → sProp 𝕄) :
    iprop(records m ρ K ∗ levAts L lv ∗ xPts m ρ c ∗ owing c (O₀ c)
        ∗ dutyTok ER (barCell (yp c)) 0 true ∗ dutyTok ER (barCell (xp c)) 0 false
        ∗ (bigSep Finset.univ fun k : Fin 4 => iprop(∃ f, mPts c (bD c k) fullShare f))
        ∗ (bigSep Finset.univ fun k : Fin 4 => iprop(∃ f, mPts c (bR c k) fullShare f))
        ∗ cred (tallyAt (barCell c) () 2) ∗ atPos ER (barCell c) 0 ∅ 0
        ∗ (bigSep Finset.univ fun k : Fin 4 => needs c k)
        ∗ ((xPts m ρ c ∗ owing c 0 ∗ atPos ER (barCell c) (0 + 1) ∅ 0 ∗ bigSep Finset.univ fun k : Fin 4 => leaves m ρ c k) -∗ |={Set.univ}=> Kt ⟨⟩))
      ⊢ wpc c (cc0_body (F := F) xM (Memref.isWhole_whole _) oM (Memref.isWhole_whole _) sM (Memref.isWhole_whole _) mM (Memref.isWhole_whole _)
          cc0_scratch2 cc0_scratch3 cc0_scratch4 cc0_scratch5) Kt := by
  rw [cc0_body_eq_skeleton]; unfold cc0_body_skel
  rw [bigSep_four (needs c)]
  unfold needs
  iintro ⟨#HR, #Hlev, Hx, HO, Hty, Htx, HmD, HmR, Hc, Hat, ⟨N0, N1, N2, N3⟩, Hk⟩
  icases N0 with ⟨s0, t00, t10, a10, c10, t20, t30, o0, C0, a00, a20⟩
  icases N1 with ⟨s1, t01, t11, a11, c11, t21, t31, o1, C1, a01, a21⟩
  icases N2 with ⟨s2, t02, t12, a12, c12, t22, t32, o2, C2, a02, a22⟩
  icases N3 with ⟨s3, t03, t13, a13, c13, t23, t33, o3, C3, a03, a23⟩
  iapply (wpc_bind c)
  iapply (part1_run m ρ K c)
  isplitr; · iexact HR
  isplitr; · iexact Hlev
  isplitl [Hx]; · iexact Hx
  isplitl [HO]; · iexact HO
  isplitl [Hty]; · iexact Hty
  isplitl [Htx]; · iexact Htx
  isplitl [HmD]; · iexact HmD
  isplitl [HmR]; · iexact HmR
  isplitl [Hc]; · iexact Hc
  isplitl [Hat]; · iexact Hat
  iintro %v2 %v5 %v8 %v9 %v10 %v24 ⟨Hx, HO, Hat, Hy, Hx'⟩
  ihave Hy' := (bar_y c) $$ Hy
  icases Hy' with ⟨y0, y1, y2, y3⟩
  ihave Hx'' := (bar_x c) $$ Hx'
  icases Hx'' with ⟨x0, x1, x2, x3⟩
  iapply (wpc_bind c)
  iapply (part2_run m ρ K c)
  isplitr; · iexact HR
  isplitl [Hx]; · iexact Hx
  isplitl [HO]; · iexact HO
  isplitl [s0 y0 t00 t10]
  · unfold chunkA
    isplitl [s0]; · iexact s0
    isplitl [y0]; · iexact y0
    isplitl [t00]; · iexact t00
    iexact t10
  isplitl [s1]; · iexact s1
  iintro %v61 ⟨Hx, HO, c00, s1⟩
  iapply (wpc_bind c)
  iapply (part3_run m ρ K c)
  isplitr; · iexact HR
  isplitl [Hx]; · iexact Hx
  isplitl [HO]; · iexact HO
  isplitl [s1]; · iexact s1
  isplitl [y1]; · iexact y1
  isplitl [t01]; · iexact t01
  isplitl [t11]; · iexact t11
  isplitl [s2 y2 t02 t12]
  · unfold chunkA
    isplitl [s2]; · iexact s2
    isplitl [y2]; · iexact y2
    isplitl [t02]; · iexact t02
    iexact t12
  iintro %v94 %v95 ⟨Hx, HO, c01, c02⟩
  iapply (wpc_bind c)
  iapply (part4_run m ρ K c)
  isplitr; · iexact HR
  isplitl [Hx]; · iexact Hx
  isplitl [HO]; · iexact HO
  isplitl [s3 y3 t03 t13]
  · unfold chunkA
    isplitl [s3]; · iexact s3
    isplitl [y3]; · iexact y3
    isplitl [t03]; · iexact t03
    iexact t13
  iintro %v117 ⟨Hx, HO, c03⟩
  iapply (wpc_bind c)
  iapply (part5_run m ρ K c)
  isplitr; · iexact HR
  isplitr; · iexact Hlev
  isplitl [Hx]; · iexact Hx
  isplitl [HO]; · iexact HO
  isplitl [a10 c10 x0 t20 t30 o0]
  · unfold chunkB
    isplitl [a10]; · iexact a10
    isplitl [c10]; · iexact c10
    isplitl [x0]; · iexact x0
    isplitl [t20]; · iexact t20
    isplitl [t30]; · iexact t30
    iexact o0
  iintro %v ⟨Hx, HO, B0⟩
  unfold doneB
  icases B0 with ⟨a10, c20, m0, o0⟩
  iapply (wpc_bind c)
  iapply (part6_run m ρ K c)
  isplitr; · iexact HR
  isplitr; · iexact Hlev
  isplitl [Hx]; · iexact Hx
  isplitl [HO]; · iexact HO
  isplitl [a11 c11 x1 t21 t31 o1]
  · unfold chunkB
    isplitl [a11]; · iexact a11
    isplitl [c11]; · iexact c11
    isplitl [x1]; · iexact x1
    isplitl [t21]; · iexact t21
    isplitl [t31]; · iexact t31
    iexact o1
  iintro %v ⟨Hx, HO, B1⟩
  unfold doneB
  icases B1 with ⟨a11, c21, m1, o1⟩
  iapply (wpc_bind c)
  iapply (part7_run m ρ K c)
  isplitr; · iexact HR
  isplitr; · iexact Hlev
  isplitl [Hx]; · iexact Hx
  isplitl [HO]; · iexact HO
  isplitl [a12 c12 x2 t22 t32 o2]
  · unfold chunkB
    isplitl [a12]; · iexact a12
    isplitl [c12]; · iexact c12
    isplitl [x2]; · iexact x2
    isplitl [t22]; · iexact t22
    isplitl [t32]; · iexact t32
    iexact o2
  iintro %v ⟨Hx, HO, B2⟩
  unfold doneB
  icases B2 with ⟨a12, c22, m2, o2⟩
  iapply (wpc_bind c)
  iapply (part8_run m ρ K c)
  isplitr; · iexact HR
  isplitr; · iexact Hlev
  isplitl [Hx]; · iexact Hx
  isplitl [HO]; · iexact HO
  isplitl [a13 c13 x3 t23 t33 o3]
  · unfold chunkB
    isplitl [a13]; · iexact a13
    isplitl [c13]; · iexact c13
    isplitl [x3]; · iexact x3
    isplitl [t23]; · iexact t23
    isplitl [t33]; · iexact t33
    iexact o3
  iintro %v %v' %w ⟨Hx, HO, B3⟩
  unfold doneB
  icases B3 with ⟨a13, c23, m3, o3⟩
  iapply (wpc_bind c)
  iapply (part9_run m ρ K c)
  isplitr; · iexact HR
  isplitr; · iexact Hlev
  isplitl [Hx]; · iexact Hx
  isplitl [HO]; · iexact HO
  isplitl [C0]; · iexact C0
  isplitl [C1]; · iexact C1
  iintro %v297 %v298 ⟨Hx, HO, C0, C1⟩
  unfold chunkC
  icases C3 with ⟨a33, c33, r3⟩
  iapply (wpc_bind c)
  iapply (part10_run m ρ K c)
  isplitr; · iexact HR
  isplitr; · iexact Hlev
  isplitl [Hx]; · iexact Hx
  isplitl [HO]; · iexact HO
  isplitl [C2]
  · unfold chunkC; iexact C2
  isplitl [a33]; · iexact a33
  isplitl [c33]; · iexact c33
  iintro %v318 ⟨Hx, HO, C2, a33, Hm⟩
  iapply (wpc_bind c)
  iapply (part11_run m ρ K c)
  isplitr; · iexact HR
  isplitr; · iexact Hlev
  isplitl [HO]; · iexact HO
  isplitl [a33]; · iexact a33
  isplitl [Hm]; · iexact Hm
  isplitl [r3]; · iexact r3
  isplitl [a00 a20 c00 c20]
  · unfold chunkE
    isplitl [a00]; · iexact a00
    isplitl [a20]; · iexact a20
    isplitl [c00]; · iexact c00
    iexact c20
  isplitl [a01 a21 c01 c21]
  · unfold chunkE
    isplitl [a01]; · iexact a01
    isplitl [a21]; · iexact a21
    isplitl [c01]; · iexact c01
    iexact c21
  iintro %u ⟨HO, C3, E0, E1⟩
  simp only [Prog.lift, Prog.bind_op, Prog.bind_ret, Prog.pure_eq_ret]
  iapply (seg_drain m ρ K c 2 (show ps cc0_scratch2 ![2] inb_S4_S1_2 = qs 0 2 from rfl) (show ps cc0_scratch4 ![2] inb_S4_S1_2 = qs 2 2 from rfl)
    (off := ![2, 0, 0]) (inb := inb_S4x64x512_S1x64x512_2_0_0) (off' := k0_off2 c 128#32) (inb' := k0_off2_inb c 2)) $$ [a02 a22 c02 c22 HO]
  · isplitr; · iexact HR
    isplitr; · iexact Hlev
    isplitr [HO]
    · unfold chunkE
      isplitl [a02]; · iexact a02
      isplitl [a22]; · iexact a22
      isplitl [c02]; · iexact c02
      iexact c22
    iexact HO
  iintro ⟨E2, HO⟩
  iapply (seg_drain m ρ K c 3 (show ps cc0_scratch2 ![3] inb_S4_S1_3 = qs 0 3 from rfl) (show ps cc0_scratch4 ![3] inb_S4_S1_3 = qs 2 3 from rfl)
    (off := ![3, 0, 0]) (inb := inb_S4x64x512_S1x64x512_3_0_0) (off' := k0_off2 c 192#32) (inb' := k0_off2_inb c 3)) $$ [a03 a23 c03 c23 HO]
  · isplitr; · iexact HR
    isplitr; · iexact Hlev
    isplitr [HO]
    · unfold chunkE
      isplitl [a03]; · iexact a03
      isplitl [a23]; · iexact a23
      isplitl [c03]; · iexact c03
      iexact c23
    iexact HO
  iintro ⟨E3, HO⟩
  unfold wpc
  rw [wp_ret]
  iapply Hk
  isplitl [Hx]; · iexact Hx
  isplitl [HO]; · iexact HO
  isplitl [Hat]; · iexact Hat
  rw [bigSep_four (leaves m ρ c)]
  unfold leaves
  isplitl [a10 m0 o0 C0 E0]
  · isplitl [a10]; · iexact a10
    isplitl [m0]; · iexact m0
    isplitl [o0]; · iexact o0
    isplitl [C0]; · iexact C0
    iexact E0
  isplitl [a11 m1 o1 C1 E1]
  · isplitl [a11]; · iexact a11
    isplitl [m1]; · iexact m1
    isplitl [o1]; · iexact o1
    isplitl [C1]; · iexact C1
    iexact E1
  isplitl [a12 m2 o2 C2 E2]
  · isplitl [a12]; · iexact a12
    isplitl [m2]; · iexact m2
    isplitl [o2]; · iexact o2
    isplitl [C2]; · iexact C2
    iexact E2
  · isplitl [a13]; · iexact a13
    isplitl [m3]; · iexact m3
    isplitl [o3]; · iexact o3
    isplitl [C3]; · iexact C3
    iexact E3

end Cert.RelayProof

end
-- ==== Proof.Body.lean ====
/-
The buffers cut into pieces and put together again, the cells closed, and the body's obligation to the pipeline.
-/
module

public import proofs.«01_k».proof.Proof.Run
public import Idealize.ShloMosaic.Lib.Ring

@[expose] public section

set_option maxRecDepth 16384

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining -/

/-- The eight blocks of rows: the four of the device's own half, the four of the other. -/
def rb (c : Dev nD) : Fin 4 ⊕ Fin 4 → Finset S512x512.Idx
  | .inl k => rows (bD c k)
  | .inr k => rows (bR c k)

/-- Different blocks of 64 rows share no row. -/
theorem rb_disjoint (c : Dev nD) : ∀ p p' : Fin 4 ⊕ Fin 4, p ≠ p' → Disjoint (rb c p) (rb c p') := by
  intro p p' hne
  have hc := hx_lt c
  rw [Finset.disjoint_left]
  intro i hi hi'
  rcases p with k | k <;> rcases p' with k' | k' <;> simp only [rb, mem_rows, bD, bR] at hi hi' <;>
    have hk := k.isLt <;> have hk' := k'.isLt
  · exact hne (congrArg _ (Fin.ext (by omega)))
  · omega
  · omega
  · exact hne (congrArg _ (Fin.ext (by omega)))

/-- The eight blocks of 64 rows are all the rows. -/
theorem rb_cover (c : Dev nD) : Finset.univ.biUnion (rb c) = Finset.univ := by
  ext i
  have hi : (i 0).val < 512 := (i 0).isLt
  have hc := hx_lt c
  simp only [Finset.mem_biUnion, Finset.mem_univ, true_and, iff_true]
  by_cases h : (i 0).val / 256 = hx c
  · exact ⟨.inl ⟨(i 0).val % 256 / 64, by omega⟩, by simp only [rb, mem_rows, bD]; omega⟩
  · exact ⟨.inr ⟨(i 0).val % 256 / 64, by omega⟩, by simp only [rb, mem_rows, bR]; omega⟩

/-- Different slots of the send buffer are disjoint. -/
theorem slot_disjoint : ∀ k k' : Fin 4, k ≠ k' → Disjoint (slot k) (slot k') := by
  intro k k' hne
  rw [Finset.disjoint_left]
  intro i hi hi'
  rw [mem_slot] at hi hi'
  exact hne (Fin.ext (hi.symm.trans hi'))

/-- The four slots are the whole send buffer. -/
theorem slot_cover : Finset.univ.biUnion slot = Finset.univ := by
  ext i
  simp only [Finset.mem_biUnion, Finset.mem_univ, true_and, iff_true]
  exact ⟨⟨(i 0).val, (i 0).isLt⟩, by rw [mem_slot]⟩

/-- The receive buffer, whole, is its eight blocks of rows. -/
theorem m_blocks (c : Dev nD) (f : (cc0_scratch1 : Ref sig .tc).ty.Contents (Elt F)) :
    ((((c : Thread nD τ).loc cc0_scratch1) ↦{fullShare} f : sProp 𝕄))
      = iprop((bigSep Finset.univ fun k : Fin 4 => mPts c (bD c k) fullShare f) ∗ bigSep Finset.univ fun k : Fin 4 => mPts c (bR c k) fullShare f) :=
  (pointsTo_blocks (ℓ := (c : Thread nD τ).loc cc0_scratch1) (rb c) (rb_disjoint c) (rb_cover c) f).trans (BI.bigSep_univ_sum _)

/-- The staged result, whole, is its eight blocks of rows. -/
theorem o_blocks (c : Dev nD) (f : (cc0_stg1_0 : Ref sig .tc).ty.Contents (Elt F)) :
    ((((c : Thread nD τ).loc cc0_stg1_0) ↦{fullShare} f : sProp 𝕄))
      = iprop((bigSep Finset.univ fun k : Fin 4 => oPts c (bD c k) f) ∗ bigSep Finset.univ fun k : Fin 4 => oPts c (bR c k) f) :=
  (pointsTo_blocks (ℓ := (c : Thread nD τ).loc cc0_stg1_0) (rb c) (rb_disjoint c) (rb_cover c) f).trans (BI.bigSep_univ_sum _)

/-- Things held at one content are held at some content each. -/
theorem some_each {T : Type} (Φ : Fin 4 → T → sProp 𝕄) (f : T) :
    (bigSep Finset.univ fun k : Fin 4 => Φ k f) ⊢ bigSep Finset.univ fun k : Fin 4 => iprop(∃ f, Φ k f) :=
  bigSep_mono fun k _ => show Φ k f ⊢ iprop(∃ f, Φ k f) by iintro H; iexists f; iexact H

/-- The receive buffer, at any contents, is its eight blocks of rows. -/
theorem m_split (c : Dev nD) : (iprop(∃ f, ((c : Thread nD τ).loc cc0_scratch1) ↦{fullShare} f) : sProp 𝕄)
    ⊢ iprop((bigSep Finset.univ fun k : Fin 4 => iprop(∃ f, mPts c (bD c k) fullShare f))
      ∗ bigSep Finset.univ fun k : Fin 4 => iprop(∃ f, mPts c (bR c k) fullShare f)) := by
  iintro ⟨%f, H⟩
  ihave H' := (Entails.of_eq (m_blocks c f)) $$ H
  icases H' with ⟨H1, H2⟩
  isplitl [H1]
  · iapply (some_each (fun k f => mPts c (bD c k) fullShare f) f); iexact H1
  · iapply (some_each (fun k f => mPts c (bR c k) fullShare f) f); iexact H2

/-- The result's staging buffer is its eight blocks of rows. -/
theorem o_split (c : Dev nD) (f : (cc0_stg1_0 : Ref sig .tc).ty.Contents (Elt F)) : ((((c : Thread nD τ).loc cc0_stg1_0) ↦{fullShare} f : sProp 𝕄))
    ⊢ iprop((bigSep Finset.univ fun k : Fin 4 => iprop(∃ f, oPts c (bD c k) f)) ∗ bigSep Finset.univ fun k : Fin 4 => iprop(∃ f, oPts c (bR c k) f)) := by
  iintro H
  ihave H' := (Entails.of_eq (o_blocks c f)) $$ H
  icases H' with ⟨H1, H2⟩
  isplitl [H1]
  · iapply (some_each (fun k f => oPts c (bD c k) f) f); iexact H1
  · iapply (some_each (fun k f => oPts c (bR c k) f) f); iexact H2

/-- The send buffer, at any contents, is its four slots. -/
theorem s_split (c : Dev nD) : (iprop(∃ f, ((c : Thread nD τ).loc cc0_scratch0) ↦{fullShare} f) : sProp 𝕄)
    ⊢ bigSep Finset.univ fun k : Fin 4 => iprop(∃ f, sPts c k f) := by
  iintro ⟨%f, H⟩
  ihave H' := (Entails.of_eq (pointsTo_blocks (ℓ := (c : Thread nD τ).loc cc0_scratch0) slot slot_disjoint slot_cover f)) $$ H
  iapply (some_each (fun k f => sPts c k f) f); iexact H'

/-- The four slots make the send buffer again. -/
theorem s_join (c : Dev nD) (f₀ : (cc0_scratch0 : Ref sig .tc).ty.Contents (Elt F)) : (bigSep Finset.univ fun k : Fin 4 => iprop(∃ f, sPts c k f))
    ⊢ (iprop(∃ f, ((c : Thread nD τ).loc cc0_scratch0) ↦{fullShare} f) : sProp 𝕄) :=
  pointsTo_blocks_join_exists (ℓ := (c : Thread nD τ).loc cc0_scratch0) slot slot_disjoint slot_cover f₀

/-- The two half shares of every block of the own half, and the whole of every block of the other, are the receive buffer. -/
theorem m_join (c : Dev nD) : iprop((bigSep Finset.univ fun k : Fin 4 => mPts c (bD c k) fullShare.left (landed m ρ c))
      ∗ (bigSep Finset.univ fun k : Fin 4 => mPts c (bD c k) fullShare.right (landed m ρ c))
      ∗ bigSep Finset.univ fun k : Fin 4 => mPts c (bR c k) fullShare (landed m ρ c))
    ⊢ (iprop(∃ f, ((c : Thread nD τ).loc cc0_scratch1) ↦{fullShare} f) : sProp 𝕄) := by
  iintro ⟨H1, H2, H3⟩
  iexists (landed m ρ c)
  iapply (Entails.of_eq (m_blocks c (landed m ρ c)).symm)
  isplitr [H3]
  · iapply (show iprop((bigSep Finset.univ fun k : Fin 4 => mPts c (bD c k) fullShare.left (landed m ρ c))
        ∗ bigSep Finset.univ fun k : Fin 4 => mPts c (bD c k) fullShare.right (landed m ρ c))
      ⊢ (bigSep Finset.univ fun k : Fin 4 => mPts c (bD c k) fullShare (landed m ρ c) : sProp 𝕄) from by
        rw [← bigSep_sep']
        exact bigSep_mono fun k _ => (pointsTo_share (PosShare.mem_left_op_right fullShare)).2)
    isplitl [H1]; · iexact H1
    iexact H2
  · iexact H3

/-! ## Closing the cells -/

/-- A cell whose one round is over closes at zero. -/
theorem close_cell (K : Dev nD × CI → ℕ) (ck : Dev nD × CI) :
    iprop(records m ρ K ∗ atPos ER (kcell ck) (0 + 1) ∅ 0) ⊢ |={Set.univ}=> (semVal (kcell ck) 0 : sProp 𝕄) := by
  iintro ⟨#HR, Hat⟩
  iapply (Rounds.cell_close ER (Rd m ρ) (Set.mem_univ (K ck)) (fun h => h) (R := 0 + 1) (duties_later m ρ (kcell ck)))
  isplitr
  · iapply (records_inv m ρ K ck); iexact HR
  iexact Hat

/-- All the completion cells of a device close. -/
theorem close_all (K : Dev nD × CI → ℕ) (c : Dev nD) :
    iprop(records m ρ K ∗ bigSep Finset.univ fun jk : Fin 4 × Fin 4 => atPos ER (qCell c jk.1 jk.2) (0 + 1) ∅ 0)
      ⊢ |={Set.univ}=> (bigSep Finset.univ fun jk : Fin 4 × Fin 4 => semVal ((c : Thread nD τ), osem jk) 0 : sProp 𝕄) :=
  (BI.bigSep_with_persistent (R := records m ρ K) (Φ := fun jk : Fin 4 × Fin 4 => atPos ER (qCell c jk.1 jk.2) (0 + 1) ∅ 0)
    (Ψ := fun jk : Fin 4 × Fin 4 => iprop(|={Set.univ}=> semVal ((c : Thread nD τ), osem jk) 0)) fun jk _ => close_cell m ρ K (c, .inr jk)).trans
    (bigSep_fupd _ _)

/-- The positions of a device's completion cells, array by array. -/
theorem pos_arrays (c : Dev nD) (r : ℕ) : (bigSep Finset.univ fun jk : Fin 4 × Fin 4 => (atPos ER (qCell c jk.1 jk.2) r ∅ 0 : sProp 𝕄))
    = iprop((bigSep Finset.univ fun k : Fin 4 => atPos ER (qCell c 0 k) r ∅ 0) ∗ (bigSep Finset.univ fun k : Fin 4 => atPos ER (qCell c 1 k) r ∅ 0)
      ∗ (bigSep Finset.univ fun k : Fin 4 => atPos ER (qCell c 2 k) r ∅ 0) ∗ bigSep Finset.univ fun k : Fin 4 => atPos ER (qCell c 3 k) r ∅ 0) := by
  rw [bigSep_univ_prod, bigSep_four]

/-! ## The pipeline's data -/

theorem cfg0_N : cfg0.N = 1 := by decide
/-- The pipeline's one point. -/
def t₀ : Fin cfg0.N := ⟨0, by rw [cfg0_N]; decide⟩
/-- The grid has one point. -/
theorem fin_N (t : Fin cfg0.N) : t = t₀ := by
  have h := t.isLt
  have h' := cfg0_N
  exact Fin.ext (by simp only [t₀]; omega)

/-- The duties device `c` pays: the signals to its two partners, and chunk by chunk the four completions of its two copies. -/
def payToks (c : Dev nD) : sProp 𝕄 :=
  iprop(dutyTok ER (barCell (yp c)) 0 true ∗ dutyTok ER (barCell (xp c)) 0 false
    ∗ (bigSep Finset.univ fun k : Fin 4 => dutyTok ER (qCell c 0 k) 0 false) ∗ (bigSep Finset.univ fun k : Fin 4 => dutyTok ER (qCell (yp c) 1 k) 0 false)
    ∗ (bigSep Finset.univ fun k : Fin 4 => dutyTok ER (qCell c 2 k) 0 false) ∗ bigSep Finset.univ fun k : Fin 4 => dutyTok ER (qCell (xp c) 3 k) 0 false)
/-- The positions and the duties device `c` starts with. -/
def linear (c : Dev nD) : sProp 𝕄 :=
  iprop((atPos ER (barCell c) 0 ∅ 0 ∗ bigSep Finset.univ fun jk : Fin 4 × Fin 4 => atPos ER (qCell c jk.1 jk.2) 0 ∅ 0) ∗ payToks c)
/-- The same with all the cells' records, at some names. -/
def ghost (c : Dev nD) : sProp 𝕄 := iprop(∃ K, records m ρ K ∗ linear c)
/-- The credit device `c` is going to spend: two units of its barrier, and the completions of what the partners send. -/
def credits (c : Dev nD) : sProp 𝕄 :=
  iprop(cred (tallyAt (barCell c) () 2) ∗ (bigSep Finset.univ fun k : Fin 4 => cred (tallyAt (qCell c 1 k) () N))
    ∗ bigSep Finset.univ fun k : Fin 4 => cred (tallyAt (qCell c 3 k) () N))
/-- What device `c`'s body starts from, its buffers apart. -/
def start (c : Dev nD) : sProp 𝕄 := iprop(ghost m ρ c ∗ credits c ∗ levAts L lv)

/-- The two scratch buffers, whole, at whatever they hold. -/
def scratch (c : Dev nD) : sProp 𝕄 :=
  iprop((∃ f, ((c : Thread nD τ).loc cc0_scratch0) ↦{fullShare} f) ∗ ∃ f, ((c : Thread nD τ).loc cc0_scratch1) ↦{fullShare} f)

/-- What the body starts with besides its windows: the protocol's ghost state and the scratch buffers. -/
def Φ₀ (c : Dev nD) : sProp 𝕄 := iprop(start m ρ c ∗ scratch c)
/-- Afterwards the scratch buffers are back and every cell is closed at zero. -/
def Φ₁ (c : Dev nD) : sProp 𝕄 :=
  iprop(scratch c ∗ (bigSep Finset.univ fun jk : Fin 4 × Fin 4 => semVal ((c : Thread nD τ), osem jk) 0) ∗ semVal (barCell c) 0)

/-- What the pipeline is told: the arrays, what the body leaves in each window, what it holds and owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The input's window is fetched. -/
theorem fetch_in (t : Fin cfg0.N) : (cfg0.win (0 : Fin 2)).fetch t = true := by rw [fin_N t]; rfl

/-- Owning a whole buffer at given contents is a points-to at those contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- All that the body is given. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- All that the body gives back. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- What all the chunks need, kind by kind. -/
theorem needs_intro (c : Dev nD) :
    iprop((bigSep Finset.univ fun k : Fin 4 => iprop(∃ f, sPts c k f))
        ∗ (bigSep Finset.univ fun k : Fin 4 => dutyTok ER (qCell c 0 k) 0 false) ∗ (bigSep Finset.univ fun k : Fin 4 => dutyTok ER (qCell (yp c) 1 k) 0 false)
        ∗ (bigSep Finset.univ fun k : Fin 4 => atPos ER (qCell c 1 k) 0 ∅ 0) ∗ (bigSep Finset.univ fun k : Fin 4 => cred (tallyAt (qCell c 1 k) () N))
        ∗ (bigSep Finset.univ fun k : Fin 4 => dutyTok ER (qCell c 2 k) 0 false) ∗ (bigSep Finset.univ fun k : Fin 4 => dutyTok ER (qCell (xp c) 3 k) 0 false)
        ∗ (bigSep Finset.univ fun k : Fin 4 => iprop(∃ f, oPts c (bD c k) f))
        ∗ ((bigSep Finset.univ fun k : Fin 4 => atPos ER (qCell c 3 k) 0 ∅ 0) ∗ (bigSep Finset.univ fun k : Fin 4 => cred (tallyAt (qCell c 3 k) () N))
          ∗ bigSep Finset.univ fun k : Fin 4 => iprop(∃ f, oPts c (bR c k) f))
        ∗ (bigSep Finset.univ fun k : Fin 4 => atPos ER (qCell c 0 k) 0 ∅ 0) ∗ bigSep Finset.univ fun k : Fin 4 => atPos ER (qCell c 2 k) 0 ∅ 0)
      ⊢ (bigSep Finset.univ fun k : Fin 4 => needs c k : sProp 𝕄) := by
  unfold needs chunkC; simp only [bigSep_sep']; exact Entails.refl _

/-- What all the chunks leave, kind by kind. -/
theorem leaves_elim (c : Dev nD) :
    (bigSep Finset.univ fun k : Fin 4 => leaves m ρ c k)
      ⊢ iprop((bigSep Finset.univ fun k : Fin 4 => atPos ER (qCell c 1 k) (0 + 1) ∅ 0)
        ∗ (bigSep Finset.univ fun k : Fin 4 => mPts c (bD c k) fullShare.right (landed m ρ c)) ∗ (bigSep Finset.univ fun k : Fin 4 => oPts c (bD c k) (outAt m ρ c))
        ∗ ((bigSep Finset.univ fun k : Fin 4 => atPos ER (qCell c 3 k) (0 + 1) ∅ 0) ∗ (bigSep Finset.univ fun k : Fin 4 => mPts c (bR c k) fullShare (landed m ρ c))
          ∗ bigSep Finset.univ fun k : Fin 4 => oPts c (bR c k) (outAt m ρ c))
        ∗ (bigSep Finset.univ fun k : Fin 4 => atPos ER (qCell c 0 k) (0 + 1) ∅ 0) ∗ (bigSep Finset.univ fun k : Fin 4 => atPos ER (qCell c 2 k) (0 + 1) ∅ 0)
        ∗ (bigSep Finset.univ fun k : Fin 4 => iprop(∃ f, sPts c k f)) ∗ bigSep Finset.univ fun k : Fin 4 => mPts c (bD c k) fullShare.left (landed m ρ c)) := by
  unfold leaves doneC doneE; simp only [bigSep_sep']; exact Entails.refl _

set_option maxHeartbeats 800000 in
/-- The body, from its buffers whole to its buffers whole. -/
theorem body_sound (c : Dev nD) : bodyPre m ρ c ⊢ wpc c (cc0_body (F := F) xM (Memref.isWhole_whole _) oM (Memref.isWhole_whole _)
    sM (Memref.isWhole_whole _) mM (Memref.isWhole_whole _) cc0_scratch2 cc0_scratch3 cc0_scratch4 cc0_scratch5) (fun _ => bodyPost m ρ c) := by
  unfold bodyPre Φ₀ start ghost linear payToks credits scratch
  iintro ⟨⟨⟨⟨%K, #HR, ⟨Hat, Hats⟩, Hty, Htx, t0, t1, t2, t3⟩, ⟨Hc, c1, c3⟩, #Hlev⟩, Hs, Hm⟩, Ho, ⟨%d0, %g0, %hg0, Hx⟩, ⟨%d1, %g1, %hg1, Hout⟩⟩
  have hx : g0 = xstg m ρ c := by rw [hg0]; unfold Dat.before; rw [if_pos (fetch_in t₀)]; rfl
  subst hx
  unfold Dat.owesAt Pipeline.owesWithin
  icases Ho with ⟨%W, %hW, HO⟩
  rw [show (dats m ρ 0 c).owed t₀.castSucc = O₀ c from rfl]
  ihave Hm' := (m_split c) $$ Hm
  icases Hm' with ⟨HmD, HmR⟩
  ihave Hs' := (s_split c) $$ Hs
  ihave Ho' := (o_split c g1) $$ Hout
  icases Ho' with ⟨HoD, HoR⟩
  ihave Ha := (Entails.of_eq (pos_arrays c 0)) $$ Hats
  icases Ha with ⟨a0, a1, a2, a3⟩
  iapply (body_run m ρ K c)
  isplitr; · iexact HR
  isplitr; · iexact Hlev
  isplitl [Hx]; · unfold xPts; iexact Hx
  isplitl [HO]; · unfold owing; iexists W; iexact HO
  isplitl [Hty]; · iexact Hty
  isplitl [Htx]; · iexact Htx
  isplitl [HmD]; · iexact HmD
  isplitl [HmR]; · iexact HmR
  isplitl [Hc]; · iexact Hc
  isplitl [Hat]; · iexact Hat
  isplitl [Hs' t0 t1 a1 c1 t2 t3 HoD a3 c3 HoR a0 a2]
  · iapply (needs_intro c)
    isplitl [Hs']; · iexact Hs'
    isplitl [t0]; · iexact t0
    isplitl [t1]; · iexact t1
    isplitl [a1]; · iexact a1
    isplitl [c1]; · iexact c1
    isplitl [t2]; · iexact t2
    isplitl [t3]; · iexact t3
    isplitl [HoD]; · iexact HoD
    isplitl [a3 c3 HoR]
    · isplitl [a3]; · iexact a3
      isplitl [c3]; · iexact c3
      iexact HoR
    isplitl [a0]; · iexact a0
    iexact a2
  iintro ⟨Hx, HO, Hat, Hall⟩
  ihave Hall' := (leaves_elim m ρ c) $$ Hall
  icases Hall' with ⟨a1, Hr, HoD, ⟨a3, HmR, HoR⟩, a0, a2, Hs, Hl⟩
  unfold owing
  icases HO with ⟨%W', HO⟩
  imod (close_all m ρ K c) $$ [a0 a1 a2 a3] with Hz
  · isplitr; · iexact HR
    iapply (Entails.of_eq (pos_arrays c (0 + 1)).symm)
    isplitl [a0]; · iexact a0
    isplitl [a1]; · iexact a1
    isplitl [a2]; · iexact a2
    iexact a3
  imod (close_cell m ρ K (c, .inl ())) $$ [Hat] with HzB
  · isplitr; · iexact HR
    iexact Hat
  ihave Hm := (m_join m ρ c) $$ [Hl Hr HmR]
  · isplitl [Hl]; · iexact Hl
    isplitl [Hr]; · iexact Hr
    iexact HmR
  ihave Hs' := (s_join c (m ((c : Thread nD τ).loc cc0_scratch0))) $$ Hs
  ihave Hout := (Entails.of_eq (o_blocks c (outAt m ρ c)).symm) $$ [HoD HoR]
  · isplitl [HoD]; · iexact HoD
    iexact HoR
  imodintro
  unfold bodyPost Φ₁ scratch Dat.owesAt Pipeline.owesWithin
  rw [show (dats m ρ 0 c).owed t₀.succ = 0 from rfl]
  isplitl [Hs' Hm Hz HzB]
  · isplitl [Hs' Hm]
    · isplitl [Hs']; · iexact Hs'
      iexact Hm
    isplitl [Hz]; · iexact Hz
    iexact HzB
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  iexact Hout

set_option maxRecDepth 4000 in
/-- The body's obligation on device `c`. -/
theorem body_obligation (c : Dev nD) : BodyObligation (dats (F := F) m ρ 0 c) (defs₀ (F := F)) 𝒱₀ () Set.univ := fun t => by
  rw [fin_N t, bigSep_W0, bigSep_W0]
  simp only [owns_whole]
  exact body_sound m ρ c

end Cert.RelayProof

end
-- ==== Proof.Launch.lean ====
/-
The launch: the ghost state made and dealt out to the devices, the credit, and the run of the whole program.
-/
module

public import proofs.«01_k».proof.Proof.Body
public import Idealize.ShloMosaic.Lib.Pipeline.CollectiveSegs

@[expose] public section

set_option maxRecDepth 16384

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties made at launch -/

/-- The completion semaphores are the kernel's own scoped ones, each named once. -/
theorem ownSemFacts : Pipeline.OwnSemFacts cfg0.spec osem := by decide +kernel

/-- Every window's array is held whole. -/
theorem share_eq (c : Dev nD) (w : Fin cfg0.W) : (dats m ρ 0 c).share w = fullShare := by unfold Dat.share; split <;> rfl

/-- The sixteen completion semaphores are different. -/
theorem osem_inj {jk jk' : Fin 4 × Fin 4} (h : osem jk = osem jk') : jk = jk' :=
  have h' := qs_inj _ _ _ _ (SemLoc.dma.inj h)
  Prod.ext h'.1 h'.2

/-- So are the seventeen semaphores of a device. -/
theorem csem_inj : Function.Injective csem := by
  rintro (⟨⟩ | jk) (⟨⟩ | jk') h
  · rfl
  · cases h
  · cases h
  · exact congrArg _ (osem_inj h)

/-- So are the semaphores of all devices. -/
theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- All the protocol's cells. -/
def allCells : Finset (GSem nD τ sig) := Finset.univ.map ⟨kcell, kcell_inj⟩

/-- A device's duties: its barrier's two, and one for each completion semaphore. -/
abbrev tokOf (ct : Dev nD × (Bool ⊕ (Fin 4 × Fin 4))) : GSem nD τ sig × ℕ × Bool := match ct.2 with
  | .inl d => (barCell ct.1, 0, d)
  | .inr jk => (qCell ct.1 jk.1 jk.2, 0, false)
/-- Different duties have different tokens. -/
theorem tokOf_inj : Function.Injective tokOf := by
  rintro ⟨c, t⟩ ⟨c', t'⟩ h
  have h1 : c = c' := by
    have := congrArg (fun x : GSem nD τ sig × ℕ × Bool => x.1.1.1) h
    rcases t with d | jk <;> rcases t' with d' | jk' <;> exact this
  subst h1
  rcases t with d | jk <;> rcases t' with d' | jk'
  · exact congrArg (fun d => (c, Sum.inl d)) (congrArg (fun x : GSem nD τ sig × ℕ × Bool => x.2.2) h)
  · exact absurd (congrArg (fun x : GSem nD τ sig × ℕ × Bool => x.1.2) h) (fun h' => by cases h')
  · exact absurd (congrArg (fun x : GSem nD τ sig × ℕ × Bool => x.1.2) h) (fun h' => by cases h')
  · exact congrArg (fun jk => (c, Sum.inr jk)) (osem_inj (congrArg (fun x : GSem nD τ sig × ℕ × Bool => x.1.2) h))
/-- All the duties' tokens. -/
def allToks : Finset (GSem nD τ sig × ℕ × Bool) := Finset.univ.map ⟨tokOf, tokOf_inj⟩

/-- The ghost element at launch: the pipeline's part and the protocol's. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Bool => dutyTok ER (barCell c) 0 d) ∗ bigSep Finset.univ fun jk : Fin 4 × Fin 4 => dutyTok ER (qCell c jk.1 jk.2) 0 false)
/-- What the launch element deals device `c`. -/
def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

/-- A family over all cells is a family over devices of families over a device's cells. -/
theorem over_cells (Φ : GSem nD τ sig → sProp 𝕄) :
    bigSep allCells Φ = bigSep Finset.univ fun c : Dev nD => bigSep Finset.univ fun k : CI => Φ (kcell (c, k)) := by
  unfold allCells; rw [bigSep_map, bigSep_univ_prod]; rfl
/-- The tokens of all duties, device by device. -/
theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => BI.bigSep_univ_sum _

/-- The launch element gives each device its cells' states and its tokens. -/
theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst' := (Entails.of_eq (over_cells fun g => roundState ER (Rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat']; · iexact Hat'
    iexact Hr'
  iexact Htok'

/-- A family over a device's cells: the barrier's, and those of its completion cells. -/
theorem over_CI (Φ : CI → sProp 𝕄) : bigSep Finset.univ Φ = iprop(Φ (.inl ()) ∗ bigSep Finset.univ fun jk : Fin 4 × Fin 4 => Φ (.inr jk)) := by
  refine (BI.bigSep_univ_sum Φ).trans ?_
  rw [BI.bigSep_univ_of_subsingleton ()]
  rfl

/-- The barrier is the launch's one unscoped semaphore. -/
theorem unscoped_eq (c : Dev nD) : (unscopedSems0 c : sProp 𝕄) = semVal (barCell c) 0 := by
  unfold unscopedSems0; rw [bigSep_eq_bigSepL_of_eq [SemLoc.reg barS] (by decide) (by decide)]; rfl

/-- A device's semaphores at zero are its cells' counters at zero. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscoped_eq, over_CI]
  unfold Pipeline.ownSems0
  iintro ⟨H, HB⟩
  isplitl [HB]; · iexact HB
  iexact H

/-- A cell's counter and its rounds make its invariant. -/
theorem make_inv (c : Dev nD) : iprop((bigSep Finset.univ fun k : CI => semVal (kcell (c, k)) 0) ∗ bigSep Finset.univ fun k : CI => roundState ER (Rd m ρ) (kcell (c, k)) 0)
    ⊢ (|={Set.univ}=> bigSep Finset.univ fun k : CI => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

/-- A device's semaphores and rounds become its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos]; · iexact Hos
    iexact Hus
  imod (make_inv m ρ c) $$ [Hv Hst] with Hinv
  · isplitl [Hv]; · iexact Hv
    iexact Hst
  imodintro
  isplitl [Hinv]; · iexact Hinv
  isplitl [Hat]; · iexact Hat
  iexact Htok

/-- A device's tokens, kind by kind. -/
theorem toks_kinds (c : Dev nD) : (toks c : sProp 𝕄) = iprop((dutyTok ER (barCell c) 0 true ∗ dutyTok ER (barCell c) 0 false)
    ∗ (bigSep Finset.univ fun k : Fin 4 => dutyTok ER (qCell c 0 k) 0 false) ∗ (bigSep Finset.univ fun k : Fin 4 => dutyTok ER (qCell c 1 k) 0 false)
    ∗ (bigSep Finset.univ fun k : Fin 4 => dutyTok ER (qCell c 2 k) 0 false) ∗ bigSep Finset.univ fun k : Fin 4 => dutyTok ER (qCell c 3 k) 0 false) := by
  unfold toks
  rw [bigSep_univ_prod, bigSep_four, bigSep_univ_eq_bigSepL [true, false] (by decide) (by decide), bigSepL_cons_cons, bigSepL_singleton]
  rfl

/-- The tokens dealt across: each device gets those of the duties it pays on its partners' cells. -/
theorem toks_across : (bigSep Finset.univ fun c : Dev nD => (toks c : sProp 𝕄)) ⊢ bigSep Finset.univ fun c : Dev nD => payToks c := by
  rw [bigSep_congr (s := Finset.univ) (fun (c : Dev nD) _ => toks_kinds (F := F) c)]
  unfold payToks
  simp only [bigSep_sep']
  rw [bigSep_univ_equiv ypE (fun c : Dev nD => (dutyTok ER (barCell c) 0 true : sProp 𝕄)),
    bigSep_univ_equiv xpE (fun c : Dev nD => (dutyTok ER (barCell c) 0 false : sProp 𝕄)),
    bigSep_univ_equiv ypE (fun c : Dev nD => (bigSep Finset.univ fun k : Fin 4 => dutyTok ER (qCell c 1 k) 0 false : sProp 𝕄)),
    bigSep_univ_equiv xpE (fun c : Dev nD => (bigSep Finset.univ fun k : Fin 4 => dutyTok ER (qCell c 3 k) 0 false : sProp 𝕄))]
  iintro ⟨⟨H1, H2⟩, H3, H4, H5, H6⟩
  isplitl [H1]; · iexact H1
  isplitl [H2]; · iexact H2
  isplitl [H3]; · iexact H3
  isplitl [H4]; · iexact H4
  isplitl [H5]; · iexact H5
  iexact H6

/-- The records and a device's own share are its ghost state. -/
theorem ghost_intro (K : Dev nD × CI → ℕ) (c : Dev nD) : iprop(records m ρ K ∗ linear c) ⊢ ghost m ρ c := by
  unfold ghost
  iintro H
  iexists K; iexact H

/-- Positions and tokens, put together device by device. -/
theorem linear_intro : iprop((bigSep Finset.univ fun c : Dev nD => bigSep Finset.univ fun k : CI => (atPos ER (kcell (c, k)) 0 ∅ 0 : sProp 𝕄))
    ∗ bigSep Finset.univ fun c : Dev nD => payToks c) ⊢ bigSep Finset.univ fun c : Dev nD => (linear c : sProp 𝕄) := by
  rw [← bigSep_sep']
  exact bigSep_mono fun c _ => show _ ⊢ linear c from Entails.of_eq (by unfold linear; rw [over_CI])

/-- What all devices allocated, dealt out so that each holds the records of all cells and the tokens of the duties it pays. -/
theorem regroup :
    (bigSep Finset.univ fun c : Dev nD => iprop((bigSep Finset.univ fun k : CI => iprop(∃ κ : ℕ, cellInv ER (Rd m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_across (F := F)) $$ Htok
  iapply (BI.bigSep_with_persistent (R := records m ρ K) fun c _ => ghost_intro m ρ K c)
  isplitr
  · unfold records; isplitl; · iexact HI
    iexact HR
  · iapply (linear_intro (F := F))
    isplitl [Hat]; · iexact Hat
    iexact Htk

/-- The global step: every device's semaphores become the protocol's cells, and what they grant is dealt out. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

/-- A tally on one cell, read at another cell of the protocol. -/
theorem tally_at (e c : Dev nD) (s s' : CI) (n : ℕ) :
    (tallyAt (kcell (e, s)) () n : CellTallies nD τ sig Unit) (kcell (c, s')) () = if e = c ∧ s = s' then n else 0 := by
  rw [tallyAt_apply]
  by_cases h : e = c ∧ s = s'
  · rw [if_pos h, if_pos ⟨by rw [h.1, h.2], rfl⟩]
  · rw [if_neg h, if_neg fun h' => h ?_]
    have := kcell_inj h'.1
    exact ⟨(congrArg Prod.fst this).symm, (congrArg Prod.snd this).symm⟩

/-- Four tallies, one for each semaphore of an array, read at a cell of the protocol. -/
theorem tallies_at (e c : Dev nD) (j : Fin 4) (s : CI) :
    (∑ k ∈ Finset.univ.filter (fun k : Fin 4 => 0 ≤ k.val), tallyAt (qCell e j k) () N : CellTallies nD τ sig Unit) (kcell (c, s)) ()
      = ∑ k : Fin 4, if e = c ∧ (Sum.inr (j, k) : CI) = s then N else 0 := by
  rw [Finset.sum_apply, Finsupp.finset_sum_apply, show Finset.univ.filter (fun k : Fin 4 => 0 ≤ k.val) = Finset.univ from by decide]
  exact Finset.sum_congr rfl fun k _ => tally_at e c (.inr (j, k)) s N

/-- The `y` partner is taken back by taking it again. -/
theorem yp_eq_iff {d c : Dev nD} : (yp d = c) = (d = yp c) :=
  propext ⟨fun h => by rw [← h, yp_yp], fun h => by rw [h, yp_yp]⟩
/-- So is the `x` partner. -/
theorem xp_eq_iff {d c : Dev nD} : (xp d = c) = (d = xp c) :=
  propext ⟨fun h => by rw [← h, xp_xp], fun h => by rw [h, xp_xp]⟩

/-- All that device `d` owes a cell of device `c`. -/
theorem owed_at (d c : Dev nD) (s : CI) : O₀ d (kcell (c, s)) ()
    = (∑ k : Fin 4, if xp d = c ∧ (Sum.inr (3, k) : CI) = s then N else 0) + (∑ k : Fin 4, if yp d = c ∧ (Sum.inr (1, k) : CI) = s then N else 0)
      + (if xp d = c ∧ (Sum.inl () : CI) = s then 1 else 0) + (if yp d = c ∧ (Sum.inl () : CI) = s then 1 else 0) := by
  unfold O₀ O₁ O₂ oX oY
  simp only [Pi.add_apply, Finsupp.add_apply]
  rw [tallies_at, tallies_at]
  exact congrArg₂ _ (congrArg₂ _ rfl (tally_at (xp d) c (.inl ()) s 1)) (tally_at (yp d) c (.inl ()) s 1)

/-- A barrier is owed one unit by each of its device's two partners. -/
theorem owed_bar (d c : Dev nD) : O₀ d (barCell c) () = (if d = xp c then 1 else 0) + (if d = yp c then 1 else 0) := by
  refine (owed_at d c (.inl ())).trans ?_
  simp only [reduceCtorEq, and_false, if_false, Finset.sum_const_zero, Nat.zero_add, and_true, xp_eq_iff, yp_eq_iff]
/-- A receive cell of the `y` exchange is owed one transfer by the `y` partner. -/
theorem owed_y (d c : Dev nD) (k : Fin 4) : O₀ d (qCell c 1 k) () = if d = yp c then N else 0 := by
  refine (owed_at d c (.inr (1, k))).trans ?_
  by_cases h : d = yp c <;>
    simp [yp_eq_iff, h, Finset.sum_ite_eq']
/-- A receive cell of the relay is owed one transfer by the `x` partner. -/
theorem owed_x (d c : Dev nD) (k : Fin 4) : O₀ d (qCell c 3 k) () = if d = xp c then N else 0 := by
  refine (owed_at d c (.inr (3, k))).trans ?_
  by_cases h : d = xp c <;>
    simp [xp_eq_iff, h, Finset.sum_ite_eq']

/-- So a barrier's credit at launch is two units; -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]
/-- that of a receive cell of the `y` exchange is one transfer; -/
theorem launch_y (c : Dev nD) (k : Fin 4) :
    tallyOn (qCell c 1 k) (launchCredit (Pipeline.owing O₀) 0 (qCell c 1 k)) = (tallyAt (qCell c 1 k) () N : CellTallies nD τ sig Unit) := by
  unfold tallyAt; refine congrArg _ (Finsupp.ext fun u => ?_); cases u
  rw [Pipeline.launchCredit_owing, Finsupp.single_eq_same, Finset.sum_congr rfl fun d _ => owed_y d c k, Finset.sum_ite_eq' Finset.univ (yp c) fun _ => N,
    if_pos (Finset.mem_univ _)]
/-- and that of a receive cell of the relay is one transfer. -/
theorem launch_x (c : Dev nD) (k : Fin 4) :
    tallyOn (qCell c 3 k) (launchCredit (Pipeline.owing O₀) 0 (qCell c 3 k)) = (tallyAt (qCell c 3 k) () N : CellTallies nD τ sig Unit) := by
  unfold tallyAt; refine congrArg _ (Finsupp.ext fun u => ?_); cases u
  rw [Pipeline.launchCredit_owing, Finsupp.single_eq_same, Finset.sum_congr rfl fun d _ => owed_x d c k, Finset.sum_ite_eq' Finset.univ (xp c) fun _ => N,
    if_pos (Finset.mem_univ _)]

/-- The launch's credit is the credit the device spends. -/
theorem creds (c : Dev nD) : (Pipeline.launchCred O₀ c : sProp 𝕄) ⊢ credits c := by
  unfold Pipeline.launchCred credits
  refine (BI.bigSep_subset (Finset.subset_univ (Finset.univ.map ⟨csem, csem_inj⟩))).trans ?_
  rw [bigSep_map, over_CI, bigSep_univ_prod, bigSep_four]
  refine (sep_mono (Entails.of_eq (congrArg cred (launch_bar c))) .rfl).trans ?_
  iintro ⟨HB, -, H1, -, H3⟩
  isplitl [HB]; · iexact HB
  isplitl [H1]
  · iapply (show _ ⊢ (bigSep Finset.univ fun k : Fin 4 => (cred (tallyAt (qCell c 1 k) () N) : sProp 𝕄)) from
      Entails.of_eq (bigSep_congr fun k _ => congrArg cred (launch_y c k))); iexact H1
  · iapply (show _ ⊢ (bigSep Finset.univ fun k : Fin 4 => (cred (tallyAt (qCell c 3 k) () N) : sProp 𝕄)) from
      Entails.of_eq (bigSep_congr fun k _ => congrArg cred (launch_x c k))); iexact H3

/-! ## The launch's side conditions -/

/-- What the launch hands a device is what its body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With the scratch buffers it is the body's state before the one grid point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- After it every counter is back and the scratch buffers are free. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_eq]
  unfold Φ₁ scratch Pipeline.ownSems0
  iintro ⟨Hr, Hz, HzB⟩
  isplitl [HzB]; · iexact HzB
  isplitl [Hz]; · iexact Hz
  iexact Hr

/-- The pipeline's own waits are below all that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_above c _ _ (n := 0) (by
      rcases t with ⟨_ | _, ht⟩
      · exact above_O₀ c
      · exact above_zero 0) (by revert w s; decide)

/-! ## The run -/

/-- What the run leaves in each window's array. -/
def finalA (c : Dev nD) (w : Fin cfg0.W) : Buf (Elt F) ((cfg0.win w).arr.view.loc (c : Thread nD τ)) := (dats m ρ 0 c).arrAt w cfg0.N

/-- Every window's array ends as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of the whole program ends, with each window's array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The input's array is left as it was. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.RelayProof

end
-- ==== Proof.Value.lean ====
/-
What the run leaves in the result's array, and that at the ideal values it is the device's part of the plain sum.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Pointwise.Reduce
public import Idealize.ShloMosaic.PureOps.Ideal.Laws

@[expose] public section

set_option maxRecDepth 16384

noncomputable section

namespace Cert.RelayProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result's window is its whole array. -/
theorem read_out (f : (main_v1 : Ref sig .tc).ty.Contents (Elt F)) : (win0_1.blk (0 : Fin 1)).view.read (Elt F) f = f :=
  Memref.read_access_unit_zero (Elt F) main_v1
    (show (fun a => (win0_1.index (0 : Fin 1)) a * main_v1.ty.shape.size a) = fun _ => 0 from funext fun a => by fin_cases a <;> decide)
    (fun a => by fin_cases a <;> decide) f

/-- The input's window is its whole array. -/
theorem read_in (f : (main_arg0 : Ref sig .tc).ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from funext fun a => by fin_cases a <;> decide)
    (fun a => by fin_cases a <;> decide) f

/-- The result's array ends as the body left its staging buffer. -/
theorem finalA_out (c : Dev nD) : finalA m ρ c (1 : Fin 2) = outAt m ρ c := by
  refine (read_out (F := F) (finalA m ρ c (1 : Fin 2))).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The whole run: the result's array, the input's array, and every counter. -/
theorem run_values : θ_run defs (onTc (τ := τ) (main (F := F))) (s₀ m ρ) (fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (finalA_out m ρ c), (h.1 c (0 : Fin 2)).trans (finalA_in m ρ c)⟩, h.2⟩) (run_main m ρ)

/-! ## The plain sum -/

/-- The reference's result: its two slabs' sum. -/
abbrev refOut (X : FVec Ideal Cert.ReferenceIdeal.S2x512x1024 .bf16) : FVec Ideal Cert.ReferenceIdeal.S512x1024 .bf16 :=
  truncf .bf16 (Host.reduceAdd (extf .f32 X Cert.ReferenceIdeal.Gen.bitsLt_bf16_f32) (constant Cert.ReferenceIdeal.S_ .f32 0x00000000#32)
    Cert.ReferenceIdeal.Gen.reducesTo_S2x512x1024_S512x1024_d0 Cert.ReferenceIdeal.Gen.h_S_) Cert.ReferenceIdeal.Gen.bitsLt_bf16_f32

/-- An element of the reference's result is the sum of the two slabs' elements. -/
theorem refOut_apply (X : FVec Ideal Cert.ReferenceIdeal.S2x512x1024 .bf16) (j : Cert.ReferenceIdeal.S512x1024.Idx) :
    refOut X j = (X (ix3 (n0 := 2) (n1 := 512) (n2 := 1024) 0 (j 0) (j 1)) + X (ix3 (n0 := 2) (n1 := 512) (n2 := 1024) 1 (j 0) (j 1)) : EReal) := by
  show Ideal.hostReduceAdd Cert.ReferenceIdeal.Gen.reducesTo_S2x512x1024_S512x1024_d0 (X : (⟨3, ![2, 512, 1024]⟩ : Shape).Idx → EReal) (Ideal.ofBits .f32 0x00000000#32) j = _
  rw [Ideal.hostReduceAdd_r3_a0 (n0 := 2) (n1 := 512) (n2 := 1024), Ideal.ofBits_zero_f32, zero_add, Fin.sum_univ_two]
  rfl

/-- Device `d`'s part of the whole input. -/
abbrev partIn (d : Dev nD) (X : FVec Ideal Cert.ReferenceIdeal.S2x512x1024 .bf16) : S1x512x1024.Idx → EReal :=
  Layout.blockN ⟨3, ![1, 512, 1024]⟩ ⟨3, ![2, 512, 1024]⟩ (Layout.meshBlock [2, 2, 4] ![[1], [], []] d) X
/-- Device `c`'s part of the whole result. -/
abbrev partOut (c : Dev nD) (Y : FVec Ideal Cert.ReferenceIdeal.S512x1024 .bf16) : S512x512.Idx → EReal :=
  Layout.blockN ⟨2, ![512, 512]⟩ ⟨2, ![512, 1024]⟩ (Layout.meshBlock [2, 2, 4] ![[], [1]] c) Y

/-- The input's slab on a device is the one of its `y`. -/
theorem in_slab (d : Dev nD) : (Layout.meshBlock [2, 2, 4] ![[1], [], []] d (h := by decide) 0).val = hy d := by revert d; decide
/-- The result's columns on a device are the half of its `y`. -/
theorem out_slab (c : Dev nD) : (Layout.meshBlock [2, 2, 4] ![[], [1]] c (h := by decide) 1).val = hy c := by revert c; decide

/-- The column of the whole array that column `i 1` of device `c`'s part is. -/
theorem col_lt (c : Dev nD) (i : S512x512.Idx) : 512 * hy c + (i 1).val < 1024 := by
  have h1 : (i 1).val < 512 := (i 1).isLt
  have := hy_lt c
  omega

/-- What device `d` holds, read in the whole input: slab `y` of `d`. -/
theorem partIn_apply (c d : Dev nD) (X : FVec Ideal Cert.ReferenceIdeal.S2x512x1024 .bf16) (i : S512x512.Idx) (a : Fin 2) (ha : a.val = hy d) :
    partIn d X (xIx c i) = X (ix3 (n0 := 2) (n1 := 512) (n2 := 1024) a (i 0) ⟨512 * hy c + (i 1).val, col_lt c i⟩) := by
  refine congrArg X (funext fun b => Fin.ext ?_)
  rw [Layout.TilesN.idx_val]
  fin_cases b
  · show (Layout.meshBlock [2, 2, 4] ![[1], [], []] d (h := by decide) 0).val * 1 + 0 = a.val
    rw [in_slab, ha]; omega
  · show 0 * 512 + (i 0).val = (i 0).val; omega
  · show 0 * 1024 + (512 * hy c + (i 1).val) = 512 * hy c + (i 1).val; omega

/-- Device `c`'s part of the plain sum, element by element. -/
theorem partOut_apply (c : Dev nD) (X : FVec Ideal Cert.ReferenceIdeal.S2x512x1024 .bf16) (i : S512x512.Idx) :
    partOut c (refOut X) i = (X (ix3 (n0 := 2) (n1 := 512) (n2 := 1024) 0 (i 0) ⟨512 * hy c + (i 1).val, col_lt c i⟩)
      + X (ix3 (n0 := 2) (n1 := 512) (n2 := 1024) 1 (i 0) ⟨512 * hy c + (i 1).val, col_lt c i⟩) : EReal) := by
  refine (congrArg (refOut X) (a₂ := ix2 (n0 := 512) (n1 := 1024) (i 0) ⟨512 * hy c + (i 1).val, col_lt c i⟩)
    (funext fun b => Fin.ext ?_)).trans (refOut_apply X _)
  rw [Layout.TilesN.idx_val]
  fin_cases b
  · show 0 * 512 + (i 0).val = (i 0).val; omega
  · show (Layout.meshBlock [2, 2, 4] ![[], [1]] c (h := by decide) 1).val * 512 + (i 1).val = 512 * hy c + (i 1).val
    rw [out_slab]; omega

/-- A device's own element and a device of the other `y`'s: the two slabs, in one order or the other. -/
theorem two_slabs (c d : Dev nD) (hd : hy d = 1 - hy c) (X : FVec Ideal Cert.ReferenceIdeal.S2x512x1024 .bf16) (i : S512x512.Idx) :
    (partIn c X (xIx c i) + partIn d X (xIx c i) : EReal) = partOut c (refOut X) i := by
  rw [partOut_apply]
  have hc := hy_lt c
  rcases (show hy c = 0 ∨ hy c = 1 by omega) with h | h
  · rw [partIn_apply c c X i 0 (by rw [h]; rfl), partIn_apply c d X i 1 (by rw [hd, h]; rfl)]
  · rw [partIn_apply c c X i 1 (by rw [h]; rfl), partIn_apply c d X i 0 (by rw [hd, h]; rfl), add_comm]

/-- The result on device `c` is its part of the plain sum. -/
theorem out_value (m : (ℓ : Loc nD τ sig) → Buf (Elt Ideal) ℓ) (ρ : Dev nD → PrngReg) (X : FVec Ideal Cert.ReferenceIdeal.S2x512x1024 .bf16)
    (hm : ∀ c : Dev nD, m ((c : Thread nD τ).loc main_arg0) = partIn c X) (c : Dev nD) : outAt m ρ c = partOut c (refOut X) := by
  have hx : ∀ d : Dev nD, xstg m ρ d = partIn d X := fun d => (read_in (F := Ideal) _).trans (hm d)
  funext i
  show (xAt m ρ c c i + landed m ρ c i : EReal) = _
  unfold landed xAt
  rw [hx, hx, hx]
  split
  · exact two_slabs c (yp c) (hy_yp c) X i
  · exact two_slabs c (yp (xp c)) (by rw [hy_yp, hy_xp]) X i

/-! ## The claims -/

/-- At any float values: the program ends, its argument unchanged, every counter back at zero. -/
theorem frame_any : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_values m ρ)

/-- The kernel's body table is the idealization's: the one label runs the same function in both. -/
theorem bodies_same : Cert.Kernel.defs₀ (F := F) = defs₀ (F := F) := by
  unfold Cert.Kernel.defs₀ defs₀
  refine congrArg Defs.onTc (funext fun l => funext fun x => ?_)
  match l, x with
  | 0, (t, s) => rfl

/-- So is its whole table, with the pallas_call's region and pipeline. -/
theorem tables_same : Cert.Kernel.defs (F := F) = defs (F := F) := congrArg (Pipeline.defs (pcfgs (F := F))) bodies_same

/-- The kernel at the bit-exact values: it ends, its argument unchanged, every counter back at zero. -/
theorem frame_kernel : Cert.quiescent_Kernel := fun m ρ _ => by
  rw [tables_same]
  exact frame_any (F := Bits) m ρ

/-- The same at the ideal values. -/
theorem frame_ideal : Cert.quiescent_KernelIdeal := fun m ρ _ => frame_any (F := Ideal) m ρ

/-- The reference: it ends, its argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values every device ends with its part of the plain sum. -/
theorem value : Cert.algebraic_KernelIdeal_ReferenceIdeal := fun m ρ m' ρ' _ hm =>
  ⟨refOut (m' (((0 : Dev Cert.ReferenceIdeal.nD).tc : Thread Cert.ReferenceIdeal.nD Cert.ReferenceIdeal.τ).loc Cert.ReferenceIdeal.main_arg0)),
    (θ_run (defs (F := Ideal)) _ _).mono (fun _ h c => ⟨(h.1 c).1.trans (out_value m ρ _ hm c), (h.1 c).2⟩) (run_values (F := Ideal) m ρ),
    (θ_run Cert.ReferenceIdeal.defs _ _).mono (fun _ h => h 0) (Cert.ReferenceIdeal.Value.run (F := Ideal) m' ρ')⟩

end Cert.RelayProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim the certificate makes. -/
theorem claim : Cert.Claim := ⟨Cert.Kernel.Gen.facts, Cert.KernelIdeal.Gen.facts, Cert.ReferenceIdeal.Gen.facts, Cert.RelayProof.frame_kernel, Cert.RelayProof.frame_ideal,
  Cert.RelayProof.frame_reference, trivial, Cert.RelayProof.value⟩

end Cert.Proof

end
